-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_sorted [hPre_finite_sorted : Cert.Pre_finite_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sorted [hPre_finite_sorted : Cert.Pre_finite_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_sorted [hKernelIdeal : Cert.KernelIdeal.Facts] [hPre_finite_sorted : Cert.Pre_finite_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_sorted [hReferenceIdeal : Cert.ReferenceIdeal.Facts] [hPre_finite_sorted : Cert.Pre_finite_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def algebraic_KernelIdeal_ReferenceIdeal_pre_finite_sorted [hKernelIdeal : Cert.KernelIdeal.Facts] [hReferenceIdeal : Cert.ReferenceIdeal.Facts] [hPre_finite_sorted : Cert.Pre_finite_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_sorted : Cert.Pre_finite_sorted.Facts),
    quiescent_Kernel (hKernel := hKernel)
    ∧ quiescent_KernelIdeal (hKernelIdeal := hKernelIdeal)
    ∧ quiescent_KernelIdeal_pre_finite_sorted (hKernelIdeal := hKernelIdeal) (hPre_finite_sorted := hPre_finite_sorted)
    ∧ quiescent_ReferenceIdeal (hReferenceIdeal := hReferenceIdeal)
    ∧ quiescent_ReferenceIdeal_pre_finite_sorted (hReferenceIdeal := hReferenceIdeal) (hPre_finite_sorted := hPre_finite_sorted)
    ∧ preserves_Kernel_KernelIdeal
    ∧ algebraic_KernelIdeal_ReferenceIdeal_pre_finite_sorted (hKernelIdeal := hKernelIdeal) (hReferenceIdeal := hReferenceIdeal) (hPre_finite_sorted := hPre_finite_sorted)
-- ==== Pre_finite_sorted.lean ====
abbrev S32768x256 : Shape := ⟨2, ![32768, 256]⟩
abbrev S17 : Shape := ⟨1, ![17]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S16 : Shape := ⟨1, ![16]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  slices_S17_S16_0 : S17.Slices ![0] S16
  slices_S17_S16_1 : S17.Slices ![1] S16
  reducesTo_S16_S_d0 : S16.ReducesTo [0] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) (main_c_4 : IVec S_ 1) : IVec S_ 1 :=
  let main_v17 : IVec S_ 1 := (fun x v => Host.reduce IntOp.andi x v reducesTo_S256x128_S_d0_1 h_S_) main_v16 main_c_4
  let main_v18 : IVec S_ 1 := andi main_v13 main_v17
  main_v18

def fn {F : FTy → Type} [FloatOps F] (main_arg0 : FVec F S32768x256 .f32) (main_arg1 : IVec S17 32) (main_arg2 : FVec F S256 .f32) (main_arg3 : FVec F S256 .f32) (main_arg4 : FVec F S256x128 .f32) (main_arg5 : FVec F S128 .f32) (main_arg6 : FVec F S128x1 .f32) (main_arg7 : FVec F S1 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : IVec S16 32 := (extractStridedSlice S16 ![0] · slices_S17_S16_0) main_arg1
  let main_v5 : IVec S16 32 := (extractStridedSlice S16 ![1] · slices_S17_S16_1) main_arg1
  let main_v6 : IVec S16 1 := cmpi .sle main_v4 main_v5
  let main_c_0 : IVec S_ 1 := constantI S_ 1 1#1
  let main_v7 : IVec S_ 1 := (fun x v => Host.reduce IntOp.andi x v reducesTo_S16_S_d0 h_S_) main_v6 main_c_0
  let main_v8 : IVec S_ 1 := andi main_v3 main_v7
  let main_v9 : FVec F S256 .f32 := Host.absf main_arg2
  let main_cst_1 : FVec F S_ .f32 := constant S_ .f32 0x7F800000#32
  let main_v10 : FVec F S256 .f32 := broadcastInDim S256 ![] bcast_S_S256 main_cst_1
  let main_v11 : IVec S256 1 := cmpf .olt main_v9 main_v10
  let main_c_2 : IVec S_ 1 := constantI S_ 1 1#1
  let main_v12 : IVec S_ 1 := (fun x v => Host.reduce IntOp.andi x v reducesTo_S256_S_d0 h_S_) main_v11 main_c_2
  let main_v13 : IVec S_ 1 := andi main_v8 main_v12
  let main_v14 : FVec F S256x128 .f32 := Host.absf main_arg4
  let main_cst_3 : FVec F S_ .f32 := constant S_ .f32 0x7F800000#32
  let main_v15 : FVec F S256x128 .f32 := broadcastInDim S256x128 ![] bcast_S_S256x128 main_cst_3
  let main_v16 : IVec S256x128 1 := cmpf .olt main_v14 main_v15
  let main_c_4 : IVec S_ 1 := constantI S_ 1 1#1
  fn_part1 (F := F) main_v13 main_v16 main_c_4
-- ==== Kernel.lean ====
abbrev S32768x256 : Shape := ⟨2, ![32768, 256]⟩
abbrev S17 : Shape := ⟨1, ![17]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x1 : Shape := ⟨2, ![256, 1]⟩
abbrev S1x256 : Shape := ⟨2, ![1, 256]⟩
abbrev S1x128 : Shape := ⟨2, ![1, 128]⟩
abbrev S1x1 : Shape := ⟨2, ![1, 1]⟩
abbrev S16x256 : Shape := ⟨2, ![16, 256]⟩
abbrev S8192x256 : Shape := ⟨2, ![8192, 256]⟩
abbrev S16x1 : Shape := ⟨2, ![16, 1]⟩
abbrev S8192 : Shape := ⟨1, ![8192]⟩
abbrev S8192x1 : Shape := ⟨2, ![8192, 1]⟩
abbrev S8192x128 : Shape := ⟨2, ![8192, 128]⟩
abbrev S1x8192 : Shape := ⟨2, ![1, 8192]⟩
abbrev S16x8192 : Shape := ⟨2, ![16, 8192]⟩
abbrev S16 : Shape := ⟨1, ![16]⟩

abbrev nBuf : Space → Nat
  | .hbm => 14
  | .vmem => 17
  | .smem => 1
  | _ => 0

abbrev bufTy : (tb : Table) → Fin (tcTables nBuf tb) → BufTy
  | .hbm, ⟨0, _⟩ => ⟨S32768x256, .f32⟩
  | .hbm, ⟨1, _⟩ => ⟨S17, .i32⟩
  | .hbm, ⟨2, _⟩ => ⟨S256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x1, .f32⟩
  | .hbm, ⟨9, _⟩ => ⟨S1x256, .f32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S16x256, .f32⟩
  | .local _ .vmem, ⟨0, _⟩ => ⟨S8192x256, .f32⟩
  | .local _ .vmem, ⟨1, _⟩ => ⟨S8192x256, .f32⟩
  | .local _ .vmem, ⟨2, _⟩ => ⟨S256x1, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S16x256, .f32⟩
  | .local _ .vmem, ⟨9, _⟩ => ⟨S16x1, .f32⟩
  | .local _ .vmem, ⟨10, _⟩ => ⟨S16x1, .f32⟩
  | .local _ .vmem, ⟨11, _⟩ => ⟨S16x256, .f32⟩
  | .local _ .vmem, ⟨12, _⟩ => ⟨S256x128, .f32⟩
  | .local _ .vmem, ⟨13, _⟩ => ⟨S1x128, .f32⟩
  | .local _ .vmem, ⟨14, _⟩ => ⟨S1x128, .f32⟩
  | .local _ .vmem, ⟨15, _⟩ => ⟨S16x1, .i32⟩
  | .local _ .vmem, ⟨16, _⟩ => ⟨S16x1, .i32⟩
  | .local _ .smem, ⟨0, _⟩ => ⟨S17, .i32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v88 : BitVec 1 := Scalar.cmpi .eq arg0 c3_i32
  let v89 : BitVec 32 := Scalar.extui v88
  let c0_i32_42 : BitVec 32 := 0#32
  let v90 : BitVec 1 := Scalar.cmpi .ne v89 c0_i32_42
  v90

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S17 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
abbrev S32768x256 : Shape := ⟨2, ![32768, 256]⟩
abbrev S17 : Shape := ⟨1, ![17]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S32768 : Shape := ⟨1, ![32768]⟩
abbrev S1x17 : Shape := ⟨2, ![1, 17]⟩
abbrev S32768x1 : Shape := ⟨2, ![32768, 1]⟩
abbrev S32768x17 : Shape := ⟨2, ![32768, 17]⟩
abbrev S_ : Shape := ⟨0, ![]⟩
abbrev S1x256 : Shape := ⟨2, ![1, 256]⟩
abbrev S32768x128 : Shape := ⟨2, ![32768, 128]⟩
abbrev S1x128 : Shape := ⟨2, ![1, 128]⟩
abbrev S1x1 : Shape := ⟨2, ![1, 1]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S16x256 : Shape := ⟨2, ![16, 256]⟩

abbrev nBuf : Space → Nat
  | .hbm => 150
  | .vmem => 0
  | .smem => 0
  | _ => 0

abbrev hbmTy0_0 (i : Nat) : BufTy := match i % 128 with
  | 0 => ⟨S32768x256, .f32⟩
  | 1 => ⟨S17, .i32⟩
  | 2 => ⟨S256, .f32⟩
  | 3 => ⟨S256, .f32⟩
  | 4 => ⟨S256x128, .f32⟩
  | 5 => ⟨S128, .f32⟩
  | 6 => ⟨S128x1, .f32⟩
  | 7 => ⟨S1, .f32⟩
  | 8 => ⟨S32768, .i32⟩
  | 9 => ⟨S1x17, .i32⟩
  | 10 => ⟨S32768x1, .i32⟩
  | 11 => ⟨S32768x17, .i32⟩
  | 12 => ⟨S32768x17, .i32⟩
  | 13 => ⟨S32768x17, .i1⟩
  | 14 => ⟨S32768x17, .i32⟩
  | 15 => ⟨S_, .i32⟩
  | 16 => ⟨S32768, .i32⟩
  | 17 => ⟨S_, .i32⟩
  | 18 => ⟨S32768, .i32⟩
  | 19 => ⟨S32768, .i32⟩
  | 20 => ⟨S_, .i32⟩
  | 21 => ⟨S32768, .i32⟩
  | 22 => ⟨S32768, .i1⟩
  | 23 => ⟨S_, .i32⟩
  | 24 => ⟨S32768, .i32⟩
  | 25 => ⟨S32768, .i1⟩
  | 26 => ⟨S32768, .i1⟩
  | 27 => ⟨S_, .i32⟩
  | 28 => ⟨S_, .i32⟩
  | 29 => ⟨S32768, .i32⟩
  | 30 => ⟨S32768, .i32⟩
  | 31 => ⟨S_, .f32⟩
  | 32 => ⟨S32768, .f32⟩
  | 33 => ⟨S32768x1, .f32⟩
  | 34 => ⟨S_, .f32⟩
  | 35 => ⟨S32768x1, .f32⟩
  | 36 => ⟨S32768x1, .f32⟩
  | 37 => ⟨S32768x256, .f32⟩
  | 38 => ⟨S32768x256, .f32⟩
  | 39 => ⟨S32768x256, .f32⟩
  | 40 => ⟨S_, .f32⟩
  | 41 => ⟨S32768, .f32⟩
  | 42 => ⟨S32768x1, .f32⟩
  | 43 => ⟨S_, .f32⟩
  | 44 => ⟨S32768x1, .f32⟩
  | 45 => ⟨S32768x1, .f32⟩
  | 46 => ⟨S32768x256, .f32⟩
  | 47 => ⟨S32768x256, .f32⟩
  | 48 => ⟨S_, .f32⟩
  | 49 => ⟨S32768x1, .f32⟩
  | 50 => ⟨S32768x1, .f32⟩
  | 51 => ⟨S32768x1, .f32⟩
  | 52 => ⟨S32768x256, .f32⟩
  | 53 => ⟨S32768x256, .f32⟩
  | 54 => ⟨S1x256, .f32⟩
  | 55 => ⟨S32768x256, .f32⟩
  | 56 => ⟨S32768x256, .f32⟩
  | 57 => ⟨S1x256, .f32⟩
  | 58 => ⟨S32768x256, .f32⟩
  | 59 => ⟨S32768x256, .f32⟩
  | 60 => ⟨S32768x128, .f32⟩
  | 61 => ⟨S1x128, .f32⟩
  | 62 => ⟨S32768x128, .f32⟩
  | 63 => ⟨S32768x128, .f32⟩
  | 64 => ⟨S_, .f32⟩
  | 65 => ⟨S32768x128, .f32⟩
  | 66 => ⟨S32768x128, .f32⟩
  | 67 => ⟨S_, .f32⟩
  | 68 => ⟨S_, .f32⟩
  | 69 => ⟨S32768x128, .f32⟩
  | 70 => ⟨S32768x128, .f32⟩
  | 71 => ⟨S32768x128, .f32⟩
  | 72 => ⟨S_, .f32⟩
  | 73 => ⟨S32768x128, .f32⟩
  | 74 => ⟨S32768x128, .f32⟩
  | 75 => ⟨S32768x128, .f32⟩
  | 76 => ⟨S32768x1, .f32⟩
  | 77 => ⟨S1x1, .f32⟩
  | 78 => ⟨S32768x1, .f32⟩
  | 79 => ⟨S32768x1, .f32⟩
  | 80 => ⟨S32768, .f32⟩
  | 81 => ⟨S_, .f32⟩
  | 82 => ⟨S_, .f32⟩
  | 83 => ⟨S32768, .f32⟩
  | 84 => ⟨S32768, .f32⟩
  | 85 => ⟨S1x32768, .i32⟩
  | 86 => ⟨S16, .i32⟩
  | 87 => ⟨S16x1, .i32⟩
  | 88 => ⟨S16x32768, .i32⟩
  | 89 => ⟨S16x32768, .i32⟩
  | 90 => ⟨S16x32768, .i1⟩
  | 91 => ⟨S1x32768, .f32⟩
  | 92 => ⟨S_, .f32⟩
  | 93 => ⟨S_, .f32⟩
  | 94 => ⟨S16x32768, .f32⟩
  | 95 => ⟨S16x32768, .f32⟩
  | 96 => ⟨S16x32768, .f32⟩
  | 97 => ⟨S_, .f32⟩
  | 98 => ⟨S16, .f32⟩
  | 99 => ⟨S16, .f32⟩
  | 100 => ⟨S_, .f32⟩
  | 101 => ⟨S16, .f32⟩
  | 102 => ⟨S16, .i1⟩
  | 103 => ⟨S_, .f32⟩
  | 104 => ⟨S_, .f32⟩
  | 105 => ⟨S16, .f32⟩
  | 106 => ⟨S16, .f32⟩
  | 107 => ⟨S_, .i32⟩
  | 108 => ⟨S32768, .i32⟩
  | 109 => ⟨S32768, .i1⟩
  | 110 => ⟨S_, .i32⟩
  | 111 => ⟨S32768, .i32⟩
  | 112 => ⟨S32768, .i32⟩
  | 113 => ⟨S32768, .i32⟩
  | 114 => ⟨S32768x1, .i32⟩
  | 115 => ⟨S32768, .f32⟩
  | 116 => ⟨S32768, .f32⟩
  | 117 => ⟨S32768, .f32⟩
  | 118 => ⟨S_, .f32⟩
  | 119 => ⟨S_, .f32⟩
  | 120 => ⟨S32768, .f32⟩
  | 121 => ⟨S32768, .f32⟩
  | 122 => ⟨S_, .f32⟩
  | 123 => ⟨S16, .f32⟩
  | 124 => ⟨S32768x1, .i32⟩
  | 125 => ⟨S16, .f32⟩
  | 126 => ⟨S_, .i32⟩
  | 127 => ⟨S32768, .i32⟩
  | _ => ⟨S32768x256, .f32⟩

abbrev hbmTy0_1 (i : Nat) : BufTy := match i % 128 with
  | 0 => ⟨S32768, .i1⟩
  | 1 => ⟨S_, .i32⟩
  | 2 => ⟨S32768, .i32⟩
  | 3 => ⟨S32768, .i32⟩
  | 4 => ⟨S32768, .i32⟩
  | 5 => ⟨S32768x1, .i32⟩
  | 6 => ⟨S32768, .f32⟩
  | 7 => ⟨S_, .f32⟩
  | 8 => ⟨S32768, .f32⟩
  | 9 => ⟨S32768, .i1⟩
  | 10 => ⟨S_, .f32⟩
  | 11 => ⟨S_, .f32⟩
  | 12 => ⟨S32768, .f32⟩
  | 13 => ⟨S32768, .f32⟩
  | 14 => ⟨S32768, .f32⟩
  | 15 => ⟨S32768x1, .f32⟩
  | 16 => ⟨S32768x256, .f32⟩
  | 17 => ⟨S32768x256, .f32⟩
  | 18 => ⟨S_, .f32⟩
  | 19 => ⟨S16x256, .f32⟩
  | 20 => ⟨S32768x1, .i32⟩
  | 21 => ⟨S16x256, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_call1_v0 : Ref sig .tc := ⟨.hbm, 82, rfl⟩
abbrev main_call1_v1 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_call3_v0 : Ref sig .tc := ⟨.hbm, 104, rfl⟩
abbrev main_call3_v1 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_18 : Ref sig .tc := ⟨.hbm, 118, rfl⟩
abbrev main_call4_v0 : Ref sig .tc := ⟨.hbm, 119, rfl⟩
abbrev main_call4_v1 : Ref sig .tc := ⟨.hbm, 120, rfl⟩
abbrev main_v81 : Ref sig .tc := ⟨.hbm, 121, rfl⟩
abbrev main_cst_19 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_20 : Ref sig .tc := ⟨.hbm, 126, rfl⟩
abbrev main_v85 : Ref sig .tc := ⟨.hbm, 127, rfl⟩
abbrev main_v86 : Ref sig .tc := ⟨.hbm, 128, rfl⟩
abbrev main_c_21 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_22 : Ref sig .tc := ⟨.hbm, 135, rfl⟩
abbrev main_v92 : Ref sig .tc := ⟨.hbm, 136, rfl⟩
abbrev main_v93 : Ref sig .tc := ⟨.hbm, 137, rfl⟩
abbrev main_cst_23 : Ref sig .tc := ⟨.hbm, 138, rfl⟩
abbrev main_call5_v0 : Ref sig .tc := ⟨.hbm, 139, rfl⟩
abbrev main_call5_v1 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_24 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩

abbrev nD : Nat := 1
abbrev τ : Topo := Topo.v7x

variable {F : FTy → Type} [FloatOps F]
-- ==== Proof.Steps.lean ====
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Steps

open Cert.KernelIdeal Cert.KernelIdeal.Gen Cert.KernelIdeal.Value

/-- The program's own tuple of what a grid point leaves: the output block, then the eight scratch buffers. -/
abbrev St := Vec Ideal S16x256 .f32 × Vec Ideal S16x1 .f32 × Vec Ideal S16x1 .f32 × Vec Ideal S16x256 .f32 × Vec Ideal S256x128 .f32 × Vec Ideal S1x128 .f32 × Vec Ideal S1x128 .f32 × Vec Ideal S16x1 .i32 × Vec Ideal S16x1 .i32

/-- The running maximum of a segment. -/
abbrev St.mx (a : St) := a.2.1
/-- The running sum of weights of a segment. -/
abbrev St.sm (a : St) := a.2.2.1
/-- The running weighted sum of tokens of a segment. -/
abbrev St.ac (a : St) := a.2.2.2.1
/-- The folded first weight matrix. -/
abbrev St.wg (a : St) := a.2.2.2.2.1
/-- The folded first bias. -/
abbrev St.c1 (a : St) := a.2.2.2.2.2.1
/-- The scaled second weight row. -/
abbrev St.w2 (a : St) := a.2.2.2.2.2.2.1
/-- The first token of each segment. -/
abbrev St.lo (a : St) := a.2.2.2.2.2.2.2.1
/-- One past the last token of each segment. -/
abbrev St.hi (a : St) := a.2.2.2.2.2.2.2.2

variable (m : (ℓ : Loc nD τ sig) → Buf (Elt Ideal) ℓ)

/-- The grid point as the word the body reads. -/
abbrev gw (t : Fin cfg0.N) : BitVec 32 := BitVec.ofNat 32 (grid0.coords t 0).val

/-- What a grid point leaves over what the point before it left. -/
abbrev step (c : Dev nD) (t : Fin cfg0.N) (acc : St) : St := stAt0 m c t.val t.isLt acc

/-- The scores of a point's tokens, in a row. -/
abbrev row (c : Dev nD) (t : Fin cfg0.N) (wg : Vec Ideal S256x128 .f32) (c1 w2 : Vec Ideal S1x128 .f32) : FVec Ideal S1x8192 .f32 :=
  k0_pay25 wg c1 w2 (iblk m c 0 t)

/-- What a middle point leaves as the running maximum. -/
theorem stepB_mx (c : Dev nD) (t : Fin cfg0.N) (acc : St) (h0 : ¬t.val % 4 = 0) (h1 : ¬t.val % 4 = 3) :
    (step m c t acc).mx = k0_pay2 (k0_pay27 (gw t) acc.lo acc.hi (row m c t acc.wg acc.c1 acc.w2) (iblk m c 7 t) acc.mx) := by
  dsimp only [step, St.mx, St.sm, St.ac, St.wg, St.c1, St.w2, St.lo, St.hi]
  rw [stAt0_B m c t acc h0 h1]
  dsimp only
  frame_out
  simp only [read_unread_whole]

/-- What a middle point leaves as the running sum. -/
theorem stepB_sm (c : Dev nD) (t : Fin cfg0.N) (acc : St) (h0 : ¬t.val % 4 = 0) (h1 : ¬t.val % 4 = 3) :
    (step m c t acc).sm = k0_pay30 (gw t) acc.lo acc.hi (row m c t acc.wg acc.c1 acc.w2) (iblk m c 7 t) acc.mx acc.sm := by
  dsimp only [step, St.mx, St.sm, St.ac, St.wg, St.c1, St.w2, St.lo, St.hi]
  rw [stAt0_B m c t acc h0 h1]
  dsimp only
  frame_out
  simp only [read_unread_whole]

/-- What a middle point leaves as the running weighted sum. -/
theorem stepB_ac (c : Dev nD) (t : Fin cfg0.N) (acc : St) (h0 : ¬t.val % 4 = 0) (h1 : ¬t.val % 4 = 3) :
    (step m c t acc).ac = k0_pay1 (iblk m c 0 t) (k0_pay28 (gw t) acc.lo acc.hi (row m c t acc.wg acc.c1 acc.w2) (iblk m c 7 t) acc.mx) (k0_pay29 (gw t) acc.lo acc.hi (row m c t acc.wg acc.c1 acc.w2) (iblk m c 7 t) acc.mx) acc.ac := by
  dsimp only [step, St.mx, St.sm, St.ac, St.wg, St.c1, St.w2, St.lo, St.hi]
  rw [stAt0_B m c t acc h0 h1]
  dsimp only
  frame_out
  simp only [read_unread_whole]

/-- A middle point keeps what the first point prepared. -/
theorem stepB_keep (c : Dev nD) (t : Fin cfg0.N) (acc : St) (h0 : ¬t.val % 4 = 0) (h1 : ¬t.val % 4 = 3) :
    (step m c t acc).2.2.2.2 = acc.2.2.2.2 := by
  dsimp only [step, St.mx, St.sm, St.ac, St.wg, St.c1, St.w2, St.lo, St.hi]
  rw [stAt0_B m c t acc h0 h1]
  rfl

/-- What the last point leaves as the running maximum. -/
theorem stepC_mx (c : Dev nD) (t : Fin cfg0.N) (acc : St) (h0 : ¬t.val % 4 = 0) (h1 : t.val % 4 = 3) :
    (step m c t acc).mx = k0_pay2 (k0_pay27 (gw t) acc.lo acc.hi (row m c t acc.wg acc.c1 acc.w2) (iblk m c 7 t) acc.mx) := by
  dsimp only [step, St.mx, St.sm, St.ac, St.wg, St.c1, St.w2, St.lo, St.hi]
  rw [stAt0_C m c t acc h0 h1]
  dsimp only
  frame_out
  simp only [read_unread_whole]

/-- What the last point leaves as the running sum. -/
theorem stepC_sm (c : Dev nD) (t : Fin cfg0.N) (acc : St) (h0 : ¬t.val % 4 = 0) (h1 : t.val % 4 = 3) :
    (step m c t acc).sm = k0_pay30 (gw t) acc.lo acc.hi (row m c t acc.wg acc.c1 acc.w2) (iblk m c 7 t) acc.mx acc.sm := by
  dsimp only [step, St.mx, St.sm, St.ac, St.wg, St.c1, St.w2, St.lo, St.hi]
  rw [stAt0_C m c t acc h0 h1]
  dsimp only
  frame_out
  simp only [read_unread_whole]

/-- What the last point leaves as the running weighted sum. -/
theorem stepC_ac (c : Dev nD) (t : Fin cfg0.N) (acc : St) (h0 : ¬t.val % 4 = 0) (h1 : t.val % 4 = 3) :
    (step m c t acc).ac = k0_pay1 (iblk m c 0 t) (k0_pay28 (gw t) acc.lo acc.hi (row m c t acc.wg acc.c1 acc.w2) (iblk m c 7 t) acc.mx) (k0_pay29 (gw t) acc.lo acc.hi (row m c t acc.wg acc.c1 acc.w2) (iblk m c 7 t) acc.mx) acc.ac := by
  dsimp only [step, St.mx, St.sm, St.ac, St.wg, St.c1, St.w2, St.lo, St.hi]
  rw [stAt0_C m c t acc h0 h1]
  dsimp only
  frame_out
  simp only [read_unread_whole]

/-- The last point keeps what the first point prepared. -/
theorem stepC_keep (c : Dev nD) (t : Fin cfg0.N) (acc : St) (h0 : ¬t.val % 4 = 0) (h1 : t.val % 4 = 3) :
    (step m c t acc).2.2.2.2 = acc.2.2.2.2 := by
  dsimp only [step, St.mx, St.sm, St.ac, St.wg, St.c1, St.w2, St.lo, St.hi]
  rw [stAt0_C m c t acc h0 h1]
  rfl

/-- What the last point writes out: the quotient of the sums it leaves. -/
theorem stepC_out (c : Dev nD) (t : Fin cfg0.N) (acc : St) (h0 : ¬t.val % 4 = 0) (h1 : t.val % 4 = 3) :
    (step m c t acc).1 = k0_pay3 (step m c t acc).sm (step m c t acc).ac := by
  rw [stepC_sm m c t acc h0 h1, stepC_ac m c t acc h0 h1]
  dsimp only [step, St.mx, St.sm, St.ac, St.wg, St.c1, St.w2, St.lo, St.hi]
  rw [stAt0_C m c t acc h0 h1]
  dsimp only
  frame_open
  simp (disch := decide) only [↓ View.readCov_skip, ↓ View.readCov_cons_toLoadRect, ↓ View.readCov_fill]
  frame_out
  simp only [read_unread_whole]

/-- The first point leaves the folded weight matrix. -/
theorem stepA_wg (c : Dev nD) (t : Fin cfg0.N) (acc : St) (h0 : t.val % 4 = 0) (h1 : ¬t.val % 4 = 3) :
    (step m c t acc).wg = k0_pay7 (iblk m c 4 t) (iblk m c 2 t) := by
  dsimp only [step, St.mx, St.sm, St.ac, St.wg, St.c1, St.w2, St.lo, St.hi]
  rw [stAt0_A m c t acc h0 h1]
  dsimp only
  frame_open
  simp (disch := decide) only [↓ View.readCov_skip, ↓ View.readCov_cons_toLoadRect, ↓ View.readCov_fill]
  frame_out

/-- The first point leaves the folded bias. -/
theorem stepA_c1 (c : Dev nD) (t : Fin cfg0.N) (acc : St) (h0 : t.val % 4 = 0) (h1 : ¬t.val % 4 = 3) :
    (step m c t acc).c1 = k0_pay10 (k0_pay8 (iblk m c 4 t) (iblk m c 3 t)) (k0_pay9 (iblk m c 5 t)) := by
  dsimp only [step, St.mx, St.sm, St.ac, St.wg, St.c1, St.w2, St.lo, St.hi]
  rw [stAt0_A m c t acc h0 h1]
  dsimp only
  frame_open
  simp (disch := decide) only [↓ View.readCov_skip, ↓ View.readCov_cons_toLoadRect, ↓ View.readCov_fill]
  frame_out

/-- The first point leaves the scaled second row. -/
theorem stepA_w2 (c : Dev nD) (t : Fin cfg0.N) (acc : St) (h0 : t.val % 4 = 0) (h1 : ¬t.val % 4 = 3) :
    (step m c t acc).w2 = k0_pay11 (iblk m c 6 t) := by
  dsimp only [step, St.mx, St.sm, St.ac, St.wg, St.c1, St.w2, St.lo, St.hi]
  rw [stAt0_A m c t acc h0 h1]
  dsimp only
  frame_open
  simp (disch := decide) only [↓ View.readCov_skip, ↓ View.readCov_cons_toLoadRect, ↓ View.readCov_fill]
  frame_out

/-- What the first point leaves as the running maximum. -/
theorem stepA_mx (c : Dev nD) (t : Fin cfg0.N) (acc : St) (h0 : t.val % 4 = 0) (h1 : ¬t.val % 4 = 3) :
    (step m c t acc).mx = k0_pay2 (k0_pay27 (gw t) (step m c t acc).lo (step m c t acc).hi (row m c t (step m c t acc).wg (step m c t acc).c1 (step m c t acc).w2) (iblk m c 7 t) (k0_pay4 (F := Ideal))) := by
  rw [stepA_wg m c t acc h0 h1, stepA_c1 m c t acc h0 h1, stepA_w2 m c t acc h0 h1]
  dsimp only [step, St.mx, St.sm, St.ac, St.wg, St.c1, St.w2, St.lo, St.hi]
  rw [stAt0_A m c t acc h0 h1]
  dsimp only
  frame_open
  simp (disch := decide) only [↓ View.readCov_skip, ↓ View.readCov_cons_toLoadRect, ↓ View.readCov_fill]
  frame_out

/-- What the first point leaves as the running sum. -/
theorem stepA_sm (c : Dev nD) (t : Fin cfg0.N) (acc : St) (h0 : t.val % 4 = 0) (h1 : ¬t.val % 4 = 3) :
    (step m c t acc).sm = k0_pay30 (gw t) (step m c t acc).lo (step m c t acc).hi (row m c t (step m c t acc).wg (step m c t acc).c1 (step m c t acc).w2) (iblk m c 7 t) (k0_pay4 (F := Ideal)) (k0_pay5 (F := Ideal)) := by
  rw [stepA_wg m c t acc h0 h1, stepA_c1 m c t acc h0 h1, stepA_w2 m c t acc h0 h1]
  dsimp only [step, St.mx, St.sm, St.ac, St.wg, St.c1, St.w2, St.lo, St.hi]
  rw [stAt0_A m c t acc h0 h1]
  dsimp only
  frame_open
  simp (disch := decide) only [↓ View.readCov_skip, ↓ View.readCov_cons_toLoadRect, ↓ View.readCov_fill]
  frame_out

/-- What the first point leaves as the running weighted sum. -/
theorem stepA_ac (c : Dev nD) (t : Fin cfg0.N) (acc : St) (h0 : t.val % 4 = 0) (h1 : ¬t.val % 4 = 3) :
    (step m c t acc).ac = k0_pay1 (iblk m c 0 t) (k0_pay28 (gw t) (step m c t acc).lo (step m c t acc).hi (row m c t (step m c t acc).wg (step m c t acc).c1 (step m c t acc).w2) (iblk m c 7 t) (k0_pay4 (F := Ideal))) (k0_pay29 (gw t) (step m c t acc).lo (step m c t acc).hi (row m c t (step m c t acc).wg (step m c t acc).c1 (step m c t acc).w2) (iblk m c 7 t) (k0_pay4 (F := Ideal))) (k0_pay6 (F := Ideal)) := by
  rw [stepA_wg m c t acc h0 h1, stepA_c1 m c t acc h0 h1, stepA_w2 m c t acc h0 h1]
  dsimp only [step, St.mx, St.sm, St.ac, St.wg, St.c1, St.w2, St.lo, St.hi]
  rw [stAt0_A m c t acc h0 h1]
  dsimp only
  frame_open
  simp (disch := decide) only [↓ View.readCov_skip, ↓ View.readCov_cons_toLoadRect, ↓ View.readCov_fill]
  frame_out

/-- The first point puts a segment's offset in its row of the segments' starts. -/
theorem stepA_lo (c : Dev nD) (t : Fin cfg0.N) (acc : St) (h0 : t.val % 4 = 0) (h1 : ¬t.val % 4 = 3) (b : Fin 16) :
    (step m c t acc).lo (ix2 b 0) = (iblk m c 1 t : Vec Ideal S17 .i32) (ix1 b.castSucc) := by
  dsimp only [step, St.mx, St.sm, St.ac, St.wg, St.c1, St.w2, St.lo, St.hi]
  rw [stAt0_A m c t acc h0 h1]
  frame_open
  simp (disch := decide) only [↓ View.readCov_skip, ↓ View.readCov_cons_toLoadRect, ↓ View.readCov_fill]
  frame_out
  pointwise [k0_pay23, k0_pay12, k0_pay14]
  fin_cases b <;> rfl

/-- The first point puts the following offset in its row of the segments' ends. -/
theorem stepA_hi (c : Dev nD) (t : Fin cfg0.N) (acc : St) (h0 : t.val % 4 = 0) (h1 : ¬t.val % 4 = 3) (b : Fin 16) :
    (step m c t acc).hi (ix2 b 0) = (iblk m c 1 t : Vec Ideal S17 .i32) (ix1 b.succ) := by
  dsimp only [step, St.mx, St.sm, St.ac, St.wg, St.c1, St.w2, St.lo, St.hi]
  rw [stAt0_A m c t acc h0 h1]
  frame_open
  simp (disch := decide) only [↓ View.readCov_skip, ↓ View.readCov_cons_toLoadRect, ↓ View.readCov_fill]
  frame_out
  pointwise [k0_pay24, k0_pay13]
  fin_cases b <;> rfl

end Cert.KernelIdeal.Steps
-- ==== Proof.Blocks.lean ====
module

public import Idealize.ShloMosaic.Lib.Pointwise
public import Idealize.ShloMosaic.Lib.Pipeline.ValueKit
public import proofs.«01_k».proof.Proof.Gen.KernelIdeal.Value

@[expose] public section

set_option maxRecDepth 16384

noncomputable section

open Idealize.ShloMosaic Idealize.ShloMosaic.TcCoe Idealize.SL.Sem

namespace Cert.KernelIdeal.Steps

open Cert.KernelIdeal Cert.KernelIdeal.Gen Cert.KernelIdeal.Value
variable (m : (ℓ : Loc nD τ sig) → Buf (Elt Ideal) ℓ)

/-- The block indices at every point: the tokens' window moves with the point, the others stay. -/
theorem idx : ∀ t : Fin cfg0.N, win0_0.index t = ![t.val, 0] ∧ win0_1.index t = ![0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The grid has one coordinate, the number of the point. -/
theorem coord : ∀ t : Fin cfg0.N, (grid0.coords t 0).val = t.val := (by decide +kernel : ∀ t : Fin grid0.N, _)

/-- The tokens of every block are among the 32768. -/
theorem tok_lt (t : Fin cfg0.N) (r : Fin 8192) : t.val * 8192 + r.val < 32768 := by
  have hN : t.val < 4 := lt_of_lt_of_eq t.isLt N_0
  omega

/-- Row `r` of the tokens' block at point `t` is token `t·8192 + r`. -/
theorem b0 (c : Dev nD) (t : Fin cfg0.N) (r : Fin 8192) (d : Fin 256) :
    (iblk m c 0 t : Vec Ideal S8192x256 .f32) (ix2 r d) = m ((c.tc : Thread nD τ).loc main_arg0) (ix2 (⟨t.val * 8192 + r.val, tok_lt t r⟩ : Fin 32768) d) := by
  have hN : t.val < 4 := lt_of_lt_of_eq t.isLt N_0
  blk_point [iblk, V, idx t]

/-- The offsets are staged whole at every point. -/
theorem b1 (c : Dev nD) (t : Fin cfg0.N) (r : Fin 17) :
    (iblk m c 1 t : Vec Ideal S17 .i32) (ix1 r) = m ((c.tc : Thread nD τ).loc main_arg1) (ix1 r) := by
  blk_point [iblk, V, idx t]

/-- The gain is staged whole, as a column. -/
theorem b2 (c : Dev nD) (t : Fin cfg0.N) (r : Fin 256) :
    (iblk m c 2 t : Vec Ideal S256x1 .f32) (ix2 r 0) = m ((c.tc : Thread nD τ).loc main_arg2) (ix1 r) := by
  blk_point [iblk, V, idx t]

/-- The shift is staged whole, as a row. -/
theorem b3 (c : Dev nD) (t : Fin cfg0.N) (r : Fin 256) :
    (iblk m c 3 t : Vec Ideal S1x256 .f32) (ix2 0 r) = m ((c.tc : Thread nD τ).loc main_arg3) (ix1 r) := by
  blk_point [iblk, V, idx t]

/-- The first weight matrix is staged whole. -/
theorem b4 (c : Dev nD) (t : Fin cfg0.N) (r : Fin 256) (h : Fin 128) :
    (iblk m c 4 t : Vec Ideal S256x128 .f32) (ix2 r h) = m ((c.tc : Thread nD τ).loc main_arg4) (ix2 r h) := by
  blk_point [iblk, V, idx t]

/-- The first bias is staged whole, as a row. -/
theorem b5 (c : Dev nD) (t : Fin cfg0.N) (r : Fin 128) :
    (iblk m c 5 t : Vec Ideal S1x128 .f32) (ix2 0 r) = m ((c.tc : Thread nD τ).loc main_arg5) (ix1 r) := by
  blk_point [iblk, V, idx t]

/-- The second layer is staged whole, as a row. -/
theorem b6 (c : Dev nD) (t : Fin cfg0.N) (r : Fin 128) :
    (iblk m c 6 t : Vec Ideal S1x128 .f32) (ix2 0 r) = m ((c.tc : Thread nD τ).loc main_arg6) (ix2 r 0) := by
  blk_point [iblk, V, idx t]

/-- The second bias is staged whole. -/
theorem b7 (c : Dev nD) (t : Fin cfg0.N)  :
    (iblk m c 7 t : Vec Ideal S1x1 .f32) (ix2 0 0) = m ((c.tc : Thread nD τ).loc main_arg7) (ix1 0) := by
  blk_point [iblk, V, idx t]
end Cert.KernelIdeal.Steps
-- ==== Proof.Maths.lean ====
module

public import Idealize.ShloMosaic.PureOps.Ideal
public import Idealize.ShloMosaic.Lib.IdealHost

@[expose] public section

noncomputable section

open Idealize.ShloMosaic
open Finset (univ range)

namespace Cert.Pool

/-! ## The score of one token, in real numbers -/

/-- The mean of a token's entries. -/
def mean (x : Fin 256 → ℝ) : ℝ := (∑ k, x k) / 256

/-- The variance of a token's entries. -/
def vari (x : Fin 256 → ℝ) : ℝ := (∑ k, (x k - mean x) * (x k - mean x)) / 256

/-- The variance is the mean square less the squared mean, and so is not below zero. -/
theorem vari_eq (x : Fin 256 → ℝ) : max ((∑ k, x k * x k) / 256 - mean x * mean x) 0 = vari x := by
  have h : (∑ k, x k * x k) / 256 - mean x * mean x = vari x := by
    have e : ∑ k, (x k - mean x) * (x k - mean x) = (∑ k, x k * x k) - 2 * mean x * (∑ k, x k) + 256 * (mean x * mean x) := by
      have : ∀ k, (x k - mean x) * (x k - mean x) = x k * x k - 2 * mean x * x k + mean x * mean x := fun k => by ring
      simp only [this, Finset.sum_add_distrib, Finset.sum_sub_distrib, ← Finset.mul_sum, Finset.sum_const, Finset.card_univ, Fintype.card_fin, nsmul_eq_mul]
      push_cast
      ring
    have hs : ∑ k, x k = 256 * mean x := by unfold mean; ring
    unfold vari
    rw [e, hs]
    ring
  rw [h]
  exact max_eq_left (div_nonneg (Finset.sum_nonneg fun k _ => mul_self_nonneg _) (by norm_num))

/-- A variance is not negative. -/
theorem vari_nonneg (x : Fin 256 → ℝ) : 0 ≤ vari x :=
  div_nonneg (Finset.sum_nonneg fun k _ => mul_self_nonneg _) (by norm_num)

/-! ## Extended reals that are real -/

/-- A sum of real numbers, taken among the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real numbers with a divisor that is not zero is the real quotient. -/
theorem div_real (a b : ℝ) (hb : b ≠ 0) : Ideal.div (a : EReal) (b : EReal) = ((a / b : ℝ) : EReal) := by
  rw [Ideal.div_coe hb, ← EReal.coe_mul, mul_one_div]

/-- A choice between two real numbers, taken among the extended reals. -/
theorem coe_ite (c : Prop) [Decidable c] (a b : ℝ) : (if c then (a : EReal) else (b : EReal)) = ((if c then a else b : ℝ) : EReal) := by
  split <;> rfl

/-- The larger of two real numbers, taken among the extended reals. -/
theorem coe_max (a b : ℝ) : max (a : EReal) (b : EReal) = ((max a b : ℝ) : EReal) := (EReal.coe_strictMono.monotone.map_max).symm

/-- The reciprocal root of a positive real number. -/
theorem rsqrt_real (a : ℝ) (h : 0 < a) : Ideal.rsqrt (a : EReal) = (((Real.sqrt a)⁻¹ : ℝ) : EReal) := by
  rw [Ideal.rsqrt_coe, if_neg (not_lt.2 h.le), if_neg h.ne']

/-- The root of a real number that is not negative. -/
theorem sqrt_real (a : ℝ) (h : 0 ≤ a) : Ideal.sqrt (a : EReal) = ((Real.sqrt a : ℝ) : EReal) := by
  rw [Ideal.sqrt_coe, if_neg (not_lt.2 h)]

/-! ## The score of one token

The tokens, the normalisation's gain and the first layer's weights are real numbers; the normalisation's shift, the first
layer's bias and the second layer may be infinite. -/

/-- A real number times a sum of a real number and anything: the product is taken over both. -/
theorem add_mul_real (a c : ℝ) (z : EReal) : ((a : EReal) + z) * (c : EReal) = ((a * c : ℝ) : EReal) + z * (c : EReal) := by
  induction z with
  | coe z => rw [← EReal.coe_add, ← EReal.coe_mul, ← EReal.coe_mul, ← EReal.coe_add, add_mul]
  | top =>
    rw [EReal.coe_add_top]
    rcases lt_trichotomy c 0 with h | h | h
    · rw [EReal.top_mul_coe_of_neg h, EReal.add_bot]
    · subst h; simp
    · rw [EReal.top_mul_coe_of_pos h, EReal.coe_add_top]
  | bot =>
    rw [EReal.add_bot]
    rcases lt_trichotomy c 0 with h | h | h
    · rw [EReal.bot_mul_coe_of_neg h, EReal.coe_add_top]
    · subst h; simp
    · rw [EReal.bot_mul_coe_of_pos h, EReal.add_bot]

/-- One hidden unit: the normalised token, scaled and shifted, through the first linear layer. -/
def hid (eps : ℝ) (x g : Fin 256 → ℝ) (b : Fin 256 → EReal) (W : Fin 256 → Fin 128 → ℝ) (b1 : Fin 128 → EReal) (h : Fin 128) : EReal :=
  (∑ k, ((((x k - mean x) / Real.sqrt (vari x + eps) * g k : ℝ) : EReal) + b k) * (W k h : EReal)) + b1 h

/-- The score of a token: the hidden units through the exact GELU and the second linear layer. -/
def score (eps : ℝ) (x g : Fin 256 → ℝ) (b : Fin 256 → EReal) (W : Fin 256 → Fin 128 → ℝ) (b1 W2 : Fin 128 → EReal) (b2 : EReal) : EReal :=
  (∑ h, ((1 / 2 : ℝ) : EReal) * hid eps x g b W b1 h * (1 + Ideal.erf (hid eps x g b W b1 h * (((Real.sqrt 2)⁻¹ : ℝ) : EReal))) * W2 h) + b2

/-- A column of the folded weight matrix: scaled by the normalisation's gain, its own mean taken out, times `s`. -/
def wfold (s : ℝ) (g : Fin 256 → ℝ) (W : Fin 256 → Fin 128 → ℝ) (k : Fin 256) (h : Fin 128) : ℝ :=
  g k * W k h * s - (∑ k', g k' * W k' h * s) * (1 / 256)

/-- The folded bias: the normalisation's shift through the first layer and that layer's bias, times `s`. -/
def bfold (s : ℝ) (b : Fin 256 → EReal) (W : Fin 256 → Fin 128 → ℝ) (b1 : Fin 128 → EReal) (h : Fin 128) : EReal :=
  (∑ k, b k * (W k h : EReal) + b1 h) * (s : EReal)

/-- The token itself through a folded column is the centred token through the column scaled by the gain. -/
theorem sum_wfold (s : ℝ) (x g : Fin 256 → ℝ) (W : Fin 256 → Fin 128 → ℝ) (h : Fin 128) :
    ∑ k, x k * wfold s g W k h = ∑ k, (x k - mean x) * (g k * W k h * s) := by
  have hs : ∑ k, x k = 256 * mean x := by unfold mean; ring
  unfold wfold
  simp only [mul_sub, sub_mul, Finset.sum_sub_distrib, ← Finset.sum_mul, ← Finset.mul_sum]
  rw [hs]
  ring

/-- The normalisation folded into the weights: the token itself through the folded column, over the deviation, plus the
    folded bias, is the hidden unit times `s`. -/
theorem fold_hid (s eps : ℝ) (x g : Fin 256 → ℝ) (b : Fin 256 → EReal) (W : Fin 256 → Fin 128 → ℝ) (b1 : Fin 128 → EReal) (h : Fin 128) :
    (((Real.sqrt (vari x + eps))⁻¹ * ∑ k, x k * wfold s g W k h : ℝ) : EReal) + bfold s b W b1 h = hid eps x g b W b1 h * (s : EReal) := by
  unfold hid bfold
  simp only [add_mul_real]
  rw [Finset.sum_add_distrib, coe_sum, add_assoc, add_mul_real, sum_wfold]
  congr 2
  rw [Finset.mul_sum, Finset.sum_mul]
  refine Finset.sum_congr rfl fun k _ => ?_
  rw [div_eq_mul_inv]
  ring

/-- The scale `1/√2` inside the error function and outside it: with each hidden unit scaled by it and the second row
    scaled by it, the two factors make the half of the GELU. -/
theorem score_fold (eps : ℝ) (x g : Fin 256 → ℝ) (b : Fin 256 → EReal) (W : Fin 256 → Fin 128 → ℝ) (b1 W2 : Fin 128 → EReal) (b2 : EReal) :
    (∑ h, W2 h * (((Real.sqrt 2)⁻¹ : ℝ) : EReal) *
        (((((Real.sqrt (vari x + eps))⁻¹ * ∑ k, x k * wfold (Real.sqrt 2)⁻¹ g W k h : ℝ) : EReal) + bfold (Real.sqrt 2)⁻¹ b W b1 h)
        * (1 + Ideal.erf ((((Real.sqrt (vari x + eps))⁻¹ * ∑ k, x k * wfold (Real.sqrt 2)⁻¹ g W k h : ℝ) : EReal) + bfold (Real.sqrt 2)⁻¹ b W b1 h)))) + b2
      = score eps x g b W b1 W2 b2 := by
  simp only [fold_hid]
  unfold score
  have h2 : ((1 / 2 : ℝ) : EReal) = (((Real.sqrt 2)⁻¹ : ℝ) : EReal) * (((Real.sqrt 2)⁻¹ : ℝ) : EReal) := by
    rw [← EReal.coe_mul, ← mul_inv, Real.mul_self_sqrt (by norm_num)]; norm_num
  congr 1
  refine Finset.sum_congr rfl fun h _ => ?_
  rw [h2]
  generalize 1 + Ideal.erf (hid eps x g b W b1 h * (((Real.sqrt 2)⁻¹ : ℝ) : EReal)) = z
  ac_rfl

/-! ## Sums over the members among the first tokens -/

open Classical in
/-- The sum of `f` over the members among the first `T` tokens. -/
def psum (p : ℕ → Prop) (f : ℕ → ℝ) (T : ℕ) : ℝ := ∑ n ∈ range T, if p n then f n else 0

open Classical in
/-- The members among the first `T + B` tokens are those among the first `T` and those of the next block of `B`. -/
theorem psum_add (p : ℕ → Prop) (f : ℕ → ℝ) (T B : ℕ) :
    psum p f (T + B) = psum p f T + ∑ r : Fin B, if p (T + r.val) then f (T + r.val) else 0 := by
  unfold psum
  rw [Finset.sum_range_add, Finset.sum_range (n := B)]

/-- A factor may be taken into the sum over the members. -/
theorem psum_mul (p : ℕ → Prop) (f : ℕ → ℝ) (a : ℝ) (T : ℕ) : psum p f T * a = psum p (fun n => f n * a) T := by
  unfold psum
  rw [Finset.sum_mul]
  refine Finset.sum_congr rfl fun n _ => ?_
  split <;> simp

/-- Equal terms have equal sums over the members. -/
theorem psum_congr (p : ℕ → Prop) (f g : ℕ → ℝ) (T : ℕ) (h : ∀ n, f n = g n) : psum p f T = psum p g T := by
  rw [funext h]

/-- Where no token is a member, the sum over the members is zero. -/
theorem psum_none (p : ℕ → Prop) (f : ℕ → ℝ) (T : ℕ) (h : ∀ n, n < T → ¬p n) : psum p f T = 0 :=
  Finset.sum_eq_zero fun n hn => if_neg (h n (Finset.mem_range.1 hn))

/-- A sum of positive terms over the members is positive once there is one. -/
theorem psum_pos (p : ℕ → Prop) (f : ℕ → ℝ) (T : ℕ) (hf : ∀ n, 0 < f n) (h : ∃ n, n < T ∧ p n) : 0 < psum p f T := by
  obtain ⟨n, hn, hp⟩ := h
  refine Finset.sum_pos' (fun k _ => ?_) ⟨n, Finset.mem_range.2 hn, ?_⟩
  · split
    · exact (hf k).le
    · exact le_refl _
  · rw [if_pos hp]; exact hf n

/-- The scores may all be lowered by one number: numerator and denominator lose the same factor. -/
theorem ratio_shift (p : ℕ → Prop) (v x : ℕ → ℝ) (T : ℕ) (M : ℝ) :
    psum p (fun n => Real.exp (v n - M) * x n) T / psum p (fun n => Real.exp (v n - M)) T
      = psum p (fun n => Real.exp (v n) * x n) T / psum p (fun n => Real.exp (v n)) T := by
  have e1 : psum p (fun n => Real.exp (v n - M) * x n) T = psum p (fun n => Real.exp (v n) * x n) T * Real.exp (-M) := by
    rw [psum_mul]
    exact psum_congr _ _ _ _ fun n => by rw [sub_eq_add_neg, Real.exp_add]; ring
  have e2 : psum p (fun n => Real.exp (v n - M)) T = psum p (fun n => Real.exp (v n)) T * Real.exp (-M) := by
    rw [psum_mul]
    exact psum_congr _ _ _ _ fun n => by rw [sub_eq_add_neg, Real.exp_add]
  rw [e1, e2, mul_div_mul_right _ _ (Real.exp_ne_zero _)]

/-- A member whose score is not minus infinity: one with a weight above zero. -/
def live (p : ℕ → Prop) (w : ℕ → EReal) (n : ℕ) : Prop := p n ∧ w n ≠ ⊥

open Classical in
/-- The pooled value: the average of `x` over the members, weighted by the exponential of the score. It is zero where no
    member has a weight, and where some member's score is infinite. -/
def pooled (p : ℕ → Prop) (w : ℕ → EReal) (x : ℕ → ℝ) (T : ℕ) : ℝ :=
  if ∃ n, n < T ∧ p n ∧ w n = ⊤ then 0
  else psum (live p w) (fun n => Real.exp (w n).toReal * x n) T / psum (live p w) (fun n => Real.exp (w n).toReal) T

/-! ## The running softmax -/

/-- What is held of a segment after the first `T` tokens: nothing yet; or an infinite score has been met; or the sums with
    the scores lowered by some `M`. -/
def Held (p : ℕ → Prop) (w : ℕ → EReal) (x : Fin 256 → ℕ → ℝ) (T : ℕ) (mx sm : EReal) (ac : Fin 256 → EReal) : Prop :=
  (mx = ⊥ ∧ (∀ n, n < T → ¬live p w n) ∧ sm = 0 ∧ ∀ d, ac d = 0) ∨
  (mx = ⊤ ∧ (∃ n, n < T ∧ p n ∧ w n = ⊤) ∧ sm = 0 ∧ ∀ d, ac d = 0) ∨
  ∃ M : ℝ, mx = (M : EReal) ∧ (∃ n, n < T ∧ live p w n) ∧ (∀ n, n < T → p n → w n ≠ ⊤)
    ∧ sm = ((psum (live p w) (fun n => Real.exp ((w n).toReal - M)) T : ℝ) : EReal)
    ∧ ∀ d, ac d = ((psum (live p w) (fun n => Real.exp ((w n).toReal - M) * x d n) T : ℝ) : EReal)

/-- Before the first token: the lowest maximum, a zero sum and zero accumulators. -/
theorem held_start (p : ℕ → Prop) (w : ℕ → EReal) (x : Fin 256 → ℕ → ℝ) : Held p w x 0 ⊥ 0 fun _ => 0 :=
  Or.inl ⟨rfl, fun n hn => absurd hn (Nat.not_lt_zero n), rfl, fun _ => rfl⟩

open Classical in
/-- The weight of a member or not, lowered by `M`, where the score is not plus infinity. -/
theorem exp_live (p : ℕ → Prop) (w : ℕ → EReal) (n : ℕ) (h : p n → w n ≠ ⊤) (M : ℝ) :
    Ideal.exp ((if p n then w n else ⊥) - (M : EReal)) = ((if live p w n then Real.exp ((w n).toReal - M) else 0 : ℝ) : EReal) := by
  by_cases hp : p n
  · rw [if_pos hp]
    by_cases hb : w n = ⊥
    · rw [if_neg fun hl => hl.2 hb, hb, EReal.bot_sub, Ideal.exp_bot]; rfl
    · rw [if_pos ⟨hp, hb⟩]
      conv_lhs => rw [← EReal.coe_toReal (h hp) hb]
      rw [← EReal.coe_sub, Ideal.exp_coe]
  · rw [if_neg hp, if_neg fun hl => hp hl.1, EReal.bot_sub, Ideal.exp_bot]; rfl

open Classical in
/-- One block of `B` more tokens: the sums held are rescaled to the new maximum and the block's own are added. -/
theorem held_step (p : ℕ → Prop) (w : ℕ → EReal) (x : Fin 256 → ℕ → ℝ) (T B : ℕ) (mx sm : EReal) (ac : Fin 256 → EReal)
    (H : Held p w x T mx sm ac) (wn : Fin B → EReal) (hw : ∀ r, wn r = if p (T + r.val) then w (T + r.val) else ⊥) :
    Held p w x (T + B) (max mx (univ.fold max ⊥ wn))
      (sm * (if ⊥ < mx then Ideal.exp (mx - max mx (univ.fold max ⊥ wn)) else 0)
        + ∑ r, Ideal.exp (wn r - if ⊥ < max mx (univ.fold max ⊥ wn) then max mx (univ.fold max ⊥ wn) else 0))
      (fun d => ac d * (if ⊥ < mx then Ideal.exp (mx - max mx (univ.fold max ⊥ wn)) else 0)
        + ∑ r, Ideal.exp (wn r - if ⊥ < max mx (univ.fold max ⊥ wn) then max mx (univ.fold max ⊥ wn) else 0) * ((x d (T + r.val) : ℝ) : EReal)) := by
  -- the new maximum bounds what was held and the block's members
  have hle : ∀ r, wn r ≤ univ.fold max ⊥ wn := fun r => (Finset.le_fold_max _).2 (Or.inr ⟨r, Finset.mem_univ r, le_refl _⟩)
  -- a token of the longer stretch is one held or one of the block
  have hsplit : ∀ n, n < T + B → n < T ∨ ∃ r : Fin B, n = T + r.val := fun n hn => by
    rcases lt_or_ge n T with h | h
    · exact Or.inl h
    · exact Or.inr ⟨⟨n - T, by omega⟩, (Nat.add_sub_cancel' h).symm⟩
  generalize hN : max mx (univ.fold max ⊥ wn) = N
  have hNle : mx ≤ N := hN ▸ le_max_left _ _
  have hNr : ∀ r, wn r ≤ N := fun r => (hle r).trans (hN ▸ le_max_right _ _)
  rcases eq_or_ne N ⊥ with hbot | hbot
  · -- no weight so far, none in the block
    have hmb : mx = ⊥ := le_bot_iff.1 (hbot ▸ hNle)
    have he : ∀ r, wn r = ⊥ := fun r => le_bot_iff.1 (hbot ▸ hNr r)
    have hnone : ∀ r : Fin B, ¬live p w (T + r.val) := fun r hl => hl.2 (by rw [← he r, hw r, if_pos hl.1])
    rcases H with ⟨-, hn, hs, ha⟩ | ⟨h, -⟩ | ⟨M, h, -⟩
    · left
      refine ⟨hbot, fun n hnT hl => ?_, ?_, fun d => ?_⟩
      · rcases hsplit n hnT with h | ⟨r, rfl⟩
        · exact hn n h hl
        · exact hnone r hl
      · rw [hs, hbot]; simp [he]
      · show ac d * _ + _ = _
        rw [ha d, hbot]; simp [he]
    · exact absurd (h ▸ hmb) top_ne_bot
    · exact absurd (h ▸ hmb) (EReal.bot_lt_coe _).ne'
  rcases eq_or_ne N ⊤ with htop | htop
  · -- an infinite score, met before or in the block: every weight relative to it is zero
    have hex : ∃ n, n < T + B ∧ p n ∧ w n = ⊤ := by
      by_cases hr : ∃ r : Fin B, wn r = ⊤
      · obtain ⟨r, hr⟩ := hr
        rw [hw r] at hr
        by_cases hp : p (T + r.val)
        · rw [if_pos hp] at hr
          exact ⟨_, by have := r.isLt; omega, hp, hr⟩
        · rw [if_neg hp] at hr
          exact absurd hr bot_ne_top
      · push Not at hr
        have hf : univ.fold max ⊥ wn < ⊤ := (Finset.fold_max_lt _).2 ⟨bot_lt_top, fun r _ => lt_top_iff_ne_top.2 (hr r)⟩
        rcases H with ⟨h, -⟩ | ⟨-, ⟨n, hn, hp⟩, -⟩ | ⟨M, h, -⟩
        · exact absurd (hN.trans htop) (max_lt (h ▸ bot_lt_top) hf).ne
        · exact ⟨n, by omega, hp⟩
        · exact absurd (hN.trans htop) (max_lt (h ▸ EReal.coe_lt_top _) hf).ne
    have hz : ∀ z : EReal, Ideal.exp (z - ⊤) = 0 := fun z => by rw [EReal.sub_top, Ideal.exp_bot]
    subst htop
    simp only [hz, ite_self, bot_lt_top, if_true, zero_mul, mul_zero, Finset.sum_const_zero, add_zero]
    exact Or.inr (Or.inl ⟨rfl, hex, rfl, fun _ => rfl⟩)
  · -- the new maximum is a real number
    obtain ⟨N', rfl⟩ : ∃ N' : ℝ, N = (N' : EReal) := ⟨N.toReal, (EReal.coe_toReal htop hbot).symm⟩
    have hpos : (⊥ : EReal) < (N' : EReal) := EReal.bot_lt_coe _
    have hfin : ∀ r : Fin B, p (T + r.val) → w (T + r.val) ≠ ⊤ := fun r hp ht => by
      have := hNr r
      rw [hw r, if_pos hp, ht] at this
      exact htop (top_le_iff.1 this)
    have he : ∀ r, Ideal.exp (wn r - if ⊥ < (N' : EReal) then (N' : EReal) else 0)
        = ((if live p w (T + r.val) then Real.exp ((w (T + r.val)).toReal - N') else 0 : ℝ) : EReal) := fun r => by
      rw [if_pos hpos, hw r]
      exact exp_live p w _ (hfin r) N'
    have hx : ∀ d (r : Fin B), ((if live p w (T + r.val) then Real.exp ((w (T + r.val)).toReal - N') else 0 : ℝ) : EReal) * ((x d (T + r.val) : ℝ) : EReal)
        = ((if live p w (T + r.val) then Real.exp ((w (T + r.val)).toReal - N') * x d (T + r.val) else 0 : ℝ) : EReal) := fun d r => by
      rw [← EReal.coe_mul]; split <;> simp
    have hfinT : ∀ n, n < T → p n → w n ≠ ⊤ := by
      rcases H with ⟨-, hn, -⟩ | ⟨h, -⟩ | ⟨M, -, -, h, -⟩
      · exact fun n hnT hp ht => hn n hnT ⟨hp, ht ▸ top_ne_bot⟩
      · exact absurd (top_le_iff.1 (h ▸ hNle)) htop
      · exact h
    simp only [he, hx, coe_sum]
    refine Or.inr (Or.inr ⟨N', rfl, ?_, fun n hn hp => ?_, ?_, fun d => ?_⟩)
    · rcases H with ⟨hm, -⟩ | ⟨h, -⟩ | ⟨M, -, ⟨n, hn, hp⟩, -⟩
      · by_contra hc
        push Not at hc
        have hwb : ∀ r, wn r = ⊥ := fun r => by
          rw [hw r]
          split
          · next hp => exact not_not.1 fun hb => hc _ (by have := r.isLt; omega) ⟨hp, hb⟩
          · rfl
        have : univ.fold max ⊥ wn ≤ ⊥ := (Finset.fold_max_le _).2 ⟨le_refl _, fun r _ => (hwb r).le⟩
        rw [hm, le_bot_iff.1 this, max_self] at hN
        exact hpos.ne hN
      · exact absurd (top_le_iff.1 (h ▸ hNle)) htop
      · exact ⟨n, by omega, hp⟩
    · rcases hsplit n hn with h | ⟨r, rfl⟩
      · exact hfinT n h hp
      · exact hfin r hp
    · rcases H with ⟨hm, hn, hs, -⟩ | ⟨h, -⟩ | ⟨M, hm, -, -, hs, -⟩
      · rw [hs, zero_mul, zero_add, psum_add, psum_none _ _ _ hn, zero_add]
      · exact absurd (top_le_iff.1 (h ▸ hNle)) htop
      · rw [hs, hm, if_pos (EReal.bot_lt_coe _), ← EReal.coe_sub, Ideal.exp_coe, ← EReal.coe_mul, ← EReal.coe_add, psum_mul, psum_add]
        congr 2
        exact psum_congr _ _ _ _ fun n => by rw [← Real.exp_add]; congr 1; ring
    · show ac d * _ + _ = _
      rcases H with ⟨hm, hn, -, ha⟩ | ⟨h, -⟩ | ⟨M, hm, -, -, -, ha⟩
      · rw [ha d, zero_mul, zero_add, psum_add, psum_none _ _ _ hn, zero_add]
      · exact absurd (top_le_iff.1 (h ▸ hNle)) htop
      · rw [ha d, hm, if_pos (EReal.bot_lt_coe _), ← EReal.coe_sub, Ideal.exp_coe, ← EReal.coe_mul, ← EReal.coe_add, psum_mul, psum_add]
        congr 2
        exact psum_congr _ _ _ _ fun n => by rw [mul_right_comm, ← Real.exp_add]; congr 2; ring

/-- Zero over one is zero. -/
theorem div_zero_one : Ideal.div 0 1 = ((0 : ℝ) : EReal) := by
  rw [show (1 : EReal) = ((1 : ℝ) : EReal) from rfl, show (0 : EReal) = ((0 : ℝ) : EReal) from rfl, div_real _ _ one_ne_zero, zero_div]

/-- The pooled value where no member has a weight. -/
theorem pooled_none (p : ℕ → Prop) (w : ℕ → EReal) (x : ℕ → ℝ) (T : ℕ) (hn : ∀ n, n < T → ¬live p w n) : pooled p w x T = 0 := by
  unfold pooled
  rw [psum_none _ _ _ hn, zero_div, ite_self]

/-- The quotient at the end is the pooled value. -/
theorem held_out (p : ℕ → Prop) (w : ℕ → EReal) (x : Fin 256 → ℕ → ℝ) (T : ℕ) (mx sm : EReal) (ac : Fin 256 → EReal)
    (H : Held p w x T mx sm ac) (d : Fin 256) :
    Ideal.div (ac d) (if 0 < sm then sm else 1) = ((pooled p w (x d) T : ℝ) : EReal) := by
  rcases H with ⟨-, hn, hs, ha⟩ | ⟨-, hex, hs, ha⟩ | ⟨M, -, hex, hf, hs, ha⟩
  · rw [ha d, hs, if_neg (lt_irrefl _), pooled_none _ _ _ _ hn, div_zero_one]
  · unfold pooled
    rw [ha d, hs, if_neg (lt_irrefl _), if_pos hex, div_zero_one]
  · have hp : 0 < psum (live p w) (fun n => Real.exp ((w n).toReal - M)) T := psum_pos _ _ _ (fun _ => Real.exp_pos _) hex
    unfold pooled
    rw [ha d, hs, if_pos (EReal.coe_pos.2 hp), div_real _ _ hp.ne', ratio_shift, if_neg fun ⟨n, hn, h, ht⟩ => hf n hn h ht]

/-! ## The softmax and the pooling written plainly -/

open Classical in
/-- The weights lowered by a real number, their sum, each weight over the sum, and the members' rows added up with these
    factors: the pooled value. -/
theorem plain_out (p : ℕ → Prop) (w : ℕ → EReal) (x : ℕ → ℝ) (T : ℕ) (M : ℝ) (S : EReal)
    (hS : S = ∑ n : Fin T, Ideal.exp ((if p n.val then w n.val else ⊥) - (M : EReal))) :
    ∑ n : Fin T, (x n.val : EReal) * Ideal.div (Ideal.exp ((if p n.val then w n.val else ⊥) - (M : EReal))) (if 0 < S then S else 1)
      = ((pooled p w x T : ℝ) : EReal) := by
  by_cases hex : ∃ n, n < T ∧ p n ∧ w n = ⊤
  · -- an infinite weight: the sum is infinite and every quotient is zero
    have hSt : S = ⊤ := by
      obtain ⟨n, hn, hp, ht⟩ := hex
      have h0 : ∀ i ∈ (univ : Finset (Fin T)), 0 ≤ Ideal.exp ((if p i.val then w i.val else ⊥) - (M : EReal)) := fun i _ => by
        generalize (if p i.val then w i.val else ⊥) - (M : EReal) = z
        induction z with
        | bot => rw [Ideal.exp_bot]
        | top => exact le_top
        | coe a => rw [Ideal.exp_coe]; exact EReal.coe_nonneg.2 (Real.exp_pos a).le
      have h1 := Finset.single_le_sum h0 (Finset.mem_univ (⟨n, hn⟩ : Fin T))
      rw [← hS] at h1
      simp only [hp, ht, if_true, EReal.top_sub_coe] at h1
      exact top_le_iff.1 h1
    have hd : ∀ z : EReal, Ideal.div z ⊤ = 0 := fun z => by
      unfold Ideal.div
      rw [if_neg EReal.top_ne_zero, EReal.inv_top, mul_zero]
    unfold pooled
    rw [if_pos hex, hSt, if_pos EReal.zero_lt_top]
    simp only [hd, mul_zero, Finset.sum_const_zero]
    rfl
  · have hf : ∀ n : Fin T, p n.val → w n.val ≠ ⊤ := fun n hp ht => hex ⟨n.val, n.isLt, hp, ht⟩
    have he : ∀ n : Fin T, Ideal.exp ((if p n.val then w n.val else ⊥) - (M : EReal))
        = ((if live p w n.val then Real.exp ((w n.val).toReal - M) else 0 : ℝ) : EReal) := fun n => exp_live p w n.val (hf n) M
    have hSr : S = ((psum (live p w) (fun n => Real.exp ((w n).toReal - M)) T : ℝ) : EReal) := by
      rw [hS]
      simp only [he, coe_sum]
      unfold psum
      rw [Finset.sum_range]
    by_cases hl : ∃ n, n < T ∧ live p w n
    · have hp : 0 < psum (live p w) (fun n => Real.exp ((w n).toReal - M)) T := psum_pos _ _ _ (fun _ => Real.exp_pos _) hl
      rw [hSr, if_pos (EReal.coe_pos.2 hp)]
      simp only [he, div_real _ _ hp.ne', ← EReal.coe_mul, coe_sum]
      unfold pooled
      rw [if_neg hex, ← ratio_shift _ _ _ _ M]
      congr 1
      generalize psum (live p w) (fun n => Real.exp ((w n).toReal - M)) T = s
      unfold psum
      rw [Finset.sum_range, Finset.sum_div]
      refine Finset.sum_congr rfl fun n _ => ?_
      split
      · ring
      · simp
    · push Not at hl
      rw [pooled_none _ _ _ _ hl, hSr, psum_none _ _ _ hl]
      have hz : ∀ n : Fin T, ¬live p w n.val := fun n => hl n.val n.isLt
      simp only [he, hz, if_false]
      refine Finset.sum_eq_zero fun n _ => ?_
      rw [show ((0 : ℝ) : EReal) = 0 from rfl, if_neg (lt_irrefl _), div_zero_one, show ((0 : ℝ) : EReal) = 0 from rfl, mul_zero]

end Cert.Pool
-- ==== Proof.Words.lean ====
module

public import Idealize.ShloMosaic.Lib.Pointwise
public import proofs.«01_k».proof.Proof.Maths
public import proofs.«01_k».proof.KernelIdeal

@[expose] public section
noncomputable section
open Idealize.ShloMosaic Idealize.ShloMosaic.TcCoe

namespace Cert.Pool

/-- The small number added to the variance. -/
def eps : ℝ := 10995116 / 2 ^ 40

/-- The small number added to the variance is positive. -/
theorem eps_pos : 0 < eps := by unfold eps; positivity

/-! The values of the words that occur, and of the named constant. -/

/-- The word of 256. -/
theorem c256 : Ideal.ofBits .f32 1132462080#32 = ((256 : ℝ) : EReal) := by
  simp [Ideal.ofBits, Ideal.ieee, -EReal.coe_mul]; norm_num
/-- The word of 1/256. -/
theorem cinv : Ideal.ofBits .f32 998244352#32 = ((1 / 256 : ℝ) : EReal) := by
  simp [Ideal.ofBits, Ideal.ieee, -EReal.coe_mul]; norm_num
/-- The word of the small number added to the variance. -/
theorem ceps : Ideal.ofBits .f32 925353388#32 = ((eps : ℝ) : EReal) := by
  unfold eps
  simp [Ideal.ofBits, Ideal.ieee, -EReal.coe_mul]; norm_num
/-- The word of minus infinity. -/
theorem cbot : Ideal.ofBits .f32 4286578688#32 = ⊥ := by
  simp [Ideal.ofBits, Ideal.ieee]
/-- The word of infinity. -/
theorem ctop : Ideal.ofBits .f32 2139095040#32 = ⊤ := by
  simp [Ideal.ofBits, Ideal.ieee]
/-- The word of one half. -/
theorem chalf : Ideal.ofBits .f32 1056964608#32 = ((1 / 2 : ℝ) : EReal) := by
  simp [Ideal.ofBits, Ideal.ieee, -EReal.coe_mul]; norm_num
/-- The word of two. -/
theorem ctwo : Ideal.ofBits .f32 1073741824#32 = ((2 : ℝ) : EReal) := by
  simp [Ideal.ofBits, Ideal.ieee, -EReal.coe_mul]; norm_num
/-- The named constant stands for one over the square root of two. -/
theorem named_s : (Named.named Cert.KernelIdeal.κ "sqrt_half" 1060439283#32 : Ideal .f32) = (((Real.sqrt 2)⁻¹ : ℝ) : EReal) := by
  simp [Named.named, Cert.KernelIdeal.κ]

/-- A choice between two values by a pair of signed comparisons. -/
theorem sel_mem {α : Type} (a b c : BitVec 32) (x y : α) :
    Scalar.select (IntOp.andi (IntOp.cmpi .sge a b) (IntOp.cmpi .slt a c)) x y = if b.toInt ≤ a.toInt ∧ a.toInt < c.toInt then x else y := by
  simp only [Scalar.select, IntOp.andi, IntOp.cmpi]
  simp [BitVec.sle, BitVec.slt]
  have h : ∀ q : Bool, (BitVec.ofBool q = 1#1) ↔ q = true := fun q => by cases q <;> simp
  simp only [h, Bool.and_eq_true, decide_eq_true_eq]

/-- Token `n` is a member of segment `b`: it is at or past the segment's offset and before the next one. -/
def mem (o : Fin 17 → BitVec 32) (b : Fin 16) (n : ℕ) : Prop := (o b.castSucc).toInt ≤ (n : ℤ) ∧ (n : ℤ) < (o b.succ).toInt

/-- The word of a token: the block's word times the block's length, plus the row. -/
theorem tok_word (t r : ℕ) (ht : t < 4) (hr : r < 8192) :
    (IntOp.addi (Scalar.muli (BitVec.ofNat 32 t) 8192#32) (BitVec.ofNat 32 r)).toInt = ((t * 8192 + r : ℕ) : ℤ) := by
  have e : IntOp.addi (Scalar.muli (BitVec.ofNat 32 t) 8192#32) (BitVec.ofNat 32 r) = BitVec.ofNat 32 (t * 8192 + r) := by
    show BitVec.ofNat 32 t * BitVec.ofNat 32 8192 + BitVec.ofNat 32 r = _
    rw [← BitVec.ofNat_mul, ← BitVec.ofNat_add]
  rw [e, BitVec.toInt_eq_toNat_cond, BitVec.toNat_ofNat, Nat.mod_eq_of_lt (by omega), if_pos (by omega)]

/-! ## The segment of a token, by counting offsets -/

/-- How many offsets are at or before token `n`. -/
def cnt (o : Fin 17 → BitVec 32) (n : ℕ) : ℕ := (Finset.univ.filter fun q : Fin 17 => (o q).toInt ≤ (n : ℤ)).card

/-- There are seventeen offsets. -/
theorem cnt_le (o : Fin 17 → BitVec 32) (n : ℕ) : cnt o n ≤ 17 := (Finset.card_le_univ _).trans (by simp)

/-- With the offsets in order, the ones at or before a token are the first ones. -/
theorem lt_cnt (o : Fin 17 → BitVec 32) (ho : ∀ q : Fin 16, (o q.castSucc).toInt ≤ (o q.succ).toInt) (n : ℕ) (q : Fin 17) :
    q.val < cnt o n ↔ (o q).toInt ≤ (n : ℤ) := by
  have hm : Monotone fun q => (o q).toInt := Fin.monotone_iff_le_succ.2 ho
  constructor
  · intro h
    by_contra hc
    have hsub : (Finset.univ.filter fun q : Fin 17 => (o q).toInt ≤ (n : ℤ)) ⊆ Finset.Iio q := fun r hr => by
      rw [Finset.mem_Iio]
      by_contra hrq
      exact hc ((hm (not_lt.1 hrq)).trans (Finset.mem_filter.1 hr).2)
    have := Finset.card_le_card hsub
    rw [Fin.card_Iio] at this
    exact absurd h (not_lt.2 this)
  · intro h
    have hsub : Finset.Iic q ⊆ Finset.univ.filter fun q : Fin 17 => (o q).toInt ≤ (n : ℤ) := fun r hr =>
      Finset.mem_filter.2 ⟨Finset.mem_univ _, (hm (Finset.mem_Iic.1 hr)).trans h⟩
    have := Finset.card_le_card hsub
    rw [Fin.card_Iic] at this
    exact this

/-- A token is a member of the segment one below its count of offsets. -/
theorem mem_iff (o : Fin 17 → BitVec 32) (ho : ∀ q : Fin 16, (o q.castSucc).toInt ≤ (o q.succ).toInt) (b : Fin 16) (n : ℕ) :
    mem o b n ↔ cnt o n = b.val + 1 := by
  unfold mem
  rw [← not_le (a := (o b.succ).toInt), ← lt_cnt o ho n b.castSucc, ← lt_cnt o ho n b.succ, Fin.val_castSucc, Fin.val_succ]
  omega

/-- The segment of a token: one below its count of offsets where that is a segment, and the first segment otherwise. -/
def seg (o : Fin 17 → BitVec 32) (n : ℕ) : ℕ := if 1 ≤ cnt o n ∧ cnt o n ≤ 16 then cnt o n - 1 else 0

/-- The segment of a token is one of the sixteen. -/
theorem seg_lt (o : Fin 17 → BitVec 32) (n : ℕ) : seg o n < 16 := by
  unfold seg
  split <;> omega

/-- A token is a member of a segment when it lies in some segment and is counted to this one. -/
theorem mem_iff_seg (o : Fin 17 → BitVec 32) (ho : ∀ q : Fin 16, (o q.castSucc).toInt ≤ (o q.succ).toInt) (b : Fin 16) (n : ℕ) :
    mem o b n ↔ (1 ≤ cnt o n ∧ cnt o n ≤ 16) ∧ seg o n = b.val := by
  have := b.isLt
  rw [mem_iff o ho]
  unfold seg
  constructor
  · intro h
    have hc : 1 ≤ cnt o n ∧ cnt o n ≤ 16 := by omega
    rw [if_pos hc]
    omega
  · rintro ⟨hc, h⟩
    rw [if_pos hc] at h
    omega

/-- Ones added up over a set, as words: the word of how many there are. -/
theorem fold_count {ι : Type} (s : Finset ι) (P : ι → Prop) [DecidablePred P] (f : ι → BitVec 32) (hf : ∀ i, f i = if P i then 1#32 else 0#32) :
    s.fold IntOp.addi 0#32 f = BitVec.ofNat 32 (s.filter P).card := by
  classical
  induction s using Finset.induction_on with
  | empty => rfl
  | insert a s ha ih =>
    rw [Finset.fold_insert ha, ih, hf a, Finset.filter_insert]
    split
    · rw [Finset.card_insert_of_notMem fun h => ha (Finset.mem_filter.1 h).1, Nat.add_comm, BitVec.ofNat_add]
      rfl
    · exact BitVec.zero_add _

/-- The word one below a small count, read signed. -/
theorem pred_word (k : ℕ) (hk : k ≤ 17) : (IntOp.subi (BitVec.ofNat 32 k) 1#32).toInt = (k : ℤ) - 1 := by
  rcases k with _ | k
  · decide
  · have e : IntOp.subi (BitVec.ofNat 32 (k + 1)) 1#32 = BitVec.ofNat 32 k := by
      show BitVec.ofNat 32 (k + 1) - 1#32 = _
      rw [BitVec.ofNat_add]
      exact BitVec.add_sub_cancel _ _
    rw [e, BitVec.toInt_eq_toNat_cond, BitVec.toNat_ofNat, Nat.mod_eq_of_lt (by omega), if_pos (by omega)]
    push_cast
    ring

/-- The arguments: the tokens, the normalisation's gain and shift, and the two linear layers. -/
structure Data where
  X : ℕ → Fin 256 → ℝ
  G : Fin 256 → ℝ
  B : Fin 256 → EReal
  W : Fin 256 → Fin 128 → ℝ
  B1 : Fin 128 → EReal
  W2 : Fin 128 → EReal
  B2 : EReal

/-- The score of token `n`. -/
def Data.w (D : Data) (n : ℕ) : EReal := score eps (D.X n) D.G D.B D.W D.B1 D.W2 D.B2

/-- The arguments, entry by entry, are these numbers. -/
structure Data.Of (D : Data) (a0 : Fin 32768 → Fin 256 → EReal) (a2 a3 : Fin 256 → EReal) (a4 : Fin 256 → Fin 128 → EReal)
    (a5 a6 : Fin 128 → EReal) (a7 : EReal) : Prop where
  h0 : ∀ n d, a0 n d = (D.X n.val d : EReal)
  h2 : ∀ d, a2 d = (D.G d : EReal)
  h3 : ∀ d, a3 d = D.B d
  h4 : ∀ d h, a4 d h = (D.W d h : EReal)
  h5 : ∀ h, a5 h = D.B1 h
  h6 : ∀ h, a6 h = D.W2 h
  h7 : a7 = D.B2

/-- The pooled value of segment `b` at entry `d`, over all tokens. -/
def Data.out (D : Data) (o : Fin 17 → BitVec 32) (b : Fin 16) (d : Fin 256) : ℝ := pooled (mem o b) D.w (fun n => D.X n d) 32768

end Cert.Pool
-- ==== Proof.Payloads.lean ====
module

public import Idealize.ShloMosaic.Lib.Pointwise
public import Idealize.ShloMosaic.Lib.Pipeline.ValueKit
public import proofs.«01_k».proof.Proof.Gen.KernelIdeal.Value
public import proofs.«01_k».proof.Proof.Maths
public import proofs.«01_k».proof.Proof.Words

@[expose] public section

set_option maxRecDepth 16384

noncomputable section

open Idealize.ShloMosaic Idealize.ShloMosaic.TcCoe Idealize.SL.Sem

open Finset (univ)

namespace Cert.KernelIdeal.Steps

open Cert.Pool Cert.KernelIdeal Cert.KernelIdeal.Gen Cert.KernelIdeal.Value

/-! ## What is set up before the first block -/

/-- The first weight matrix with the gain, the mean and the root folded in. -/
theorem p7 (w : Vec Ideal S256x128 .f32) (g : Vec Ideal S256x1 .f32) (W : Fin 256 → Fin 128 → ℝ) (G : Fin 256 → ℝ)
    (hw : ∀ k h, w (ix2 k h) = (W k h : EReal)) (hg : ∀ k, g (ix2 k 0) = (G k : EReal)) (k : Fin 256) (h : Fin 128) :
    k0_pay7 w g (ix2 k h) = ((wfold (Real.sqrt 2)⁻¹ G W k h : ℝ) : EReal) := by
  pointwise [k0_pay7]
  simp only [named_s, cinv, hw, hg, ← EReal.coe_mul, coe_sum, ← EReal.coe_sub, wfold]

/-- The bias of the folded first layer: the shift through the weights, and the first bias. -/
theorem p10 (w : Vec Ideal S256x128 .f32) (g : Vec Ideal S1x256 .f32) (b1 : Vec Ideal S1x128 .f32)
    (W : Fin 256 → Fin 128 → ℝ) (B : Fin 256 → EReal) (B1 : Fin 128 → EReal)
    (hw : ∀ k h, w (ix2 k h) = (W k h : EReal)) (hg : ∀ k, g (ix2 0 k) = B k) (hb : ∀ h, b1 (ix2 0 h) = B1 h) (h : Fin 128) :
    k0_pay10 (k0_pay8 w g) (k0_pay9 b1) (ix2 0 h) = bfold (Real.sqrt 2)⁻¹ B W B1 h := by
  pointwise [k0_pay10, k0_pay8, k0_pay9]
  simp only [named_s, hw, hg, hb, bfold]

/-- The second layer with the root folded in. -/
theorem p11 (w2 : Vec Ideal S1x128 .f32) (W2 : Fin 128 → EReal) (h2 : ∀ h, w2 (ix2 0 h) = W2 h) (h : Fin 128) :
    k0_pay11 w2 (ix2 0 h) = W2 h * (((Real.sqrt 2)⁻¹ : ℝ) : EReal) := by
  pointwise [k0_pay11]
  simp only [named_s, h2]

/-- The maxima start at minus infinity. -/
theorem p4 (b : Fin 16) : k0_pay4 (F := Ideal) (ix2 b 0) = (⊥ : EReal) := by
  pointwise [k0_pay4]
  exact cbot
/-- The sums start at zero. -/
theorem p5 (b : Fin 16) : k0_pay5 (F := Ideal) (ix2 b 0) = (0 : EReal) := by
  pointwise [k0_pay5]
/-- The accumulators start at zero. -/
theorem p6 (b : Fin 16) (d : Fin 256) : k0_pay6 (F := Ideal) (ix2 b d) = (0 : EReal) := by
  pointwise [k0_pay6]

/-! ## The scores of a block -/

/-- With the folded weights held, a row's score is the token's, without the last bias. -/
theorem p25 (wg : Vec Ideal S256x128 .f32) (c1 w2 : Vec Ideal S1x128 .f32) (x : Vec Ideal S8192x256 .f32) (r : Fin 8192)
    (X G : Fin 256 → ℝ) (B : Fin 256 → EReal) (W : Fin 256 → Fin 128 → ℝ) (B1 W2 : Fin 128 → EReal) (B2 : EReal)
    (hx : ∀ k, x (ix2 r k) = (X k : EReal))
    (hwg : ∀ k h, wg (ix2 k h) = ((wfold (Real.sqrt 2)⁻¹ G W k h : ℝ) : EReal))
    (hc1 : ∀ h, c1 (ix2 0 h) = bfold (Real.sqrt 2)⁻¹ B W B1 h)
    (hw2 : ∀ h, w2 (ix2 0 h) = W2 h * (((Real.sqrt 2)⁻¹ : ℝ) : EReal)) :
    k0_pay25 wg c1 w2 x (ix2 0 r) + B2 = score eps X G B W B1 W2 B2 := by
  rw [← score_fold]
  pointwise [k0_pay25]
  have he : ∀ a : EReal, (FloatOps.erf (a : Ideal .f32) : Ideal .f32) = Ideal.erf a := fun a => rfl
  have h256 : (256 : ℝ) ≠ 0 := by norm_num
  have hpos : 0 < vari X + eps := add_pos_of_nonneg_of_pos (vari_nonneg X) eps_pos
  have hv : max ((∑ k, X k * X k) / 256 - (∑ k, X k) / 256 * ((∑ k, X k) / 256)) 0 = vari X := vari_eq X
  have h0 : (0 : EReal) = ((0 : ℝ) : EReal) := rfl
  simp only [hx, hwg, hc1, hw2, c256, ceps, ← EReal.coe_mul, coe_sum, div_real _ _ h256, ← EReal.coe_sub, h0, coe_max, hv, ← EReal.coe_add,
    rsqrt_real _ hpos]
  simp only [he]

/-! ## The running softmax on a block -/

variable (i : BitVec 32) (lo hi : Vec Ideal S16x1 .i32) (w : FVec Ideal S1x8192 .f32) (b2 : Vec Ideal S1x1 .f32) (mx sm : Vec Ideal S16x1 .f32)

/-- A segment sees the score of a token between its two offsets, and minus infinity elsewhere. -/
theorem p26 (b : Fin 16) (r : Fin 8192) :
    k0_pay26 i lo hi w b2 (ix2 b r)
      = if (lo (ix2 b 0)).toInt ≤ (IntOp.addi (Scalar.muli i 8192#32) (BitVec.ofNat 32 r.val)).toInt
          ∧ (IntOp.addi (Scalar.muli i 8192#32) (BitVec.ofNat 32 r.val)).toInt < (hi (ix2 b 0)).toInt
        then w (ix2 0 r) + b2 (ix2 0 0) else ⊥ := by
  pointwise [k0_pay26]
  rw [sel_mem, cbot]

/-- The new maximum is the larger of the one before and the block's scores. -/
theorem p27 (b : Fin 16) :
    k0_pay27 i lo hi w b2 mx (ix2 b 0) = max (mx (ix2 b 0)) (univ.fold max ⊥ fun r => k0_pay26 i lo hi w b2 (ix2 b r)) := by
  pointwise [k0_pay27]
  rw [cbot]

/-- The maximum is stored as it is. -/
theorem p2 (v : FVec Ideal S16x1 .f32) (b : Fin 16) : k0_pay2 v (ix2 b 0) = v (ix2 b 0) := by
  pointwise [k0_pay2]

/-- A token's weight in the block: the exponential of its score less the new maximum, if there is one. -/
theorem p28 (b : Fin 16) (r : Fin 8192) :
    k0_pay28 i lo hi w b2 mx (ix2 b r) = Ideal.exp (k0_pay26 i lo hi w b2 (ix2 b r)
      - if ⊥ < k0_pay27 i lo hi w b2 mx (ix2 b 0) then k0_pay27 i lo hi w b2 mx (ix2 b 0) else 0) := by
  pointwise [k0_pay28]
  rw [cbot]

/-- What the sums before are scaled by when the maximum moves. -/
theorem p29 (b : Fin 16) :
    k0_pay29 i lo hi w b2 mx (ix2 b 0) = if ⊥ < mx (ix2 b 0) then Ideal.exp (mx (ix2 b 0) - k0_pay27 i lo hi w b2 mx (ix2 b 0)) else 0 := by
  pointwise [k0_pay29]
  rw [cbot]

/-- The new sum: the one before scaled, and the block's weights. -/
theorem p30 (b : Fin 16) :
    k0_pay30 i lo hi w b2 mx sm (ix2 b 0) = sm (ix2 b 0) * k0_pay29 i lo hi w b2 mx (ix2 b 0) + ∑ r, k0_pay28 i lo hi w b2 mx (ix2 b r) := by
  pointwise [k0_pay30]

/-- The new accumulator: the one before scaled, and the block's tokens by their weights. -/
theorem p1 (x : Vec Ideal S8192x256 .f32) (e : FVec Ideal S16x8192 .f32) (sc : FVec Ideal S16x1 .f32) (a : Vec Ideal S16x256 .f32) (b : Fin 16) (d : Fin 256) :
    k0_pay1 x e sc a (ix2 b d) = a (ix2 b d) * sc (ix2 b 0) + ∑ r, e (ix2 b r) * x (ix2 r d) := by
  pointwise [k0_pay1]

/-- The result: the accumulator over the sum, or over one where the sum is zero. -/
theorem p3 (s : Vec Ideal S16x1 .f32) (a : Vec Ideal S16x256 .f32) (b : Fin 16) (d : Fin 256) :
    k0_pay3 s a (ix2 b d) = Ideal.div (a (ix2 b d)) (if 0 < s (ix2 b 0) then s (ix2 b 0) else 1) := by
  pointwise [k0_pay3]

/-- One block on one segment: what is held of the segment after the block's tokens. -/
theorem held_block (x : Vec Ideal S8192x256 .f32) (ac : Vec Ideal S16x256 .f32) (p : ℕ → Prop) (v : ℕ → EReal) (X : Fin 256 → ℕ → ℝ) (T : ℕ) (b : Fin 16)
    (hp : ∀ r : Fin 8192, p (T + r.val) ↔ (lo (ix2 b 0)).toInt ≤ (IntOp.addi (Scalar.muli i 8192#32) (BitVec.ofNat 32 r.val)).toInt
          ∧ (IntOp.addi (Scalar.muli i 8192#32) (BitVec.ofNat 32 r.val)).toInt < (hi (ix2 b 0)).toInt)
    (hv : ∀ r : Fin 8192, w (ix2 0 r) + b2 (ix2 0 0) = v (T + r.val))
    (hx : ∀ (r : Fin 8192) d, x (ix2 r d) = ((X d (T + r.val) : ℝ) : EReal))
    (H : Held p v X T (mx (ix2 b 0)) (sm (ix2 b 0)) fun d => ac (ix2 b d)) :
    Held p v X (T + 8192) (k0_pay2 (k0_pay27 i lo hi w b2 mx) (ix2 b 0)) (k0_pay30 i lo hi w b2 mx sm (ix2 b 0))
      fun d => k0_pay1 x (k0_pay28 i lo hi w b2 mx) (k0_pay29 i lo hi w b2 mx) ac (ix2 b d) := by
  classical
  have hs := held_step p v X T 8192 _ _ _ H (fun r => k0_pay26 i lo hi w b2 (ix2 b r)) fun r => by
    rw [p26, hv r]
    exact if_congr (hp r).symm rfl rfl
  simp only [p2, p30, p1, p28, p29, p27, hx]
  exact hs

end Cert.KernelIdeal.Steps
-- ==== Proof.Fold.lean ====
module

public import Idealize.ShloMosaic.Lib.Pointwise
public import Idealize.ShloMosaic.Lib.Pipeline.ValueKit
public import proofs.«01_k».proof.Proof.Gen.KernelIdeal.Value
public import proofs.«01_k».proof.Proof.Steps
public import proofs.«01_k».proof.Proof.Blocks
public import proofs.«01_k».proof.Proof.Payloads
public import proofs.«01_k».proof.Proof.Maths
public import proofs.«01_k».proof.Proof.Words

@[expose] public section

set_option maxRecDepth 16384

noncomputable section

open Idealize.ShloMosaic Idealize.ShloMosaic.TcCoe Idealize.SL.Sem

open Finset (univ)

namespace Cert.KernelIdeal.Steps

open Cert.Pool Cert.KernelIdeal Cert.KernelIdeal.Gen Cert.KernelIdeal.Value

variable (m : (ℓ : Loc nD τ sig) → Buf (Elt Ideal) ℓ)

/-- The offsets on a device. -/
abbrev offs (c : Dev nD) : Fin 17 → BitVec 32 := fun q => m ((c.tc : Thread nD τ).loc main_arg1) (ix1 q)

/-- The arguments on a device are these numbers. -/
abbrev Args (c : Dev nD) (D : Data) : Prop :=
  D.Of (fun n d => m ((c.tc : Thread nD τ).loc main_arg0) (ix2 n d)) (fun d => m ((c.tc : Thread nD τ).loc main_arg2) (ix1 d))
    (fun d => m ((c.tc : Thread nD τ).loc main_arg3) (ix1 d)) (fun d h => m ((c.tc : Thread nD τ).loc main_arg4) (ix2 d h))
    (fun h => m ((c.tc : Thread nD τ).loc main_arg5) (ix1 h)) (fun h => m ((c.tc : Thread nD τ).loc main_arg6) (ix2 h 0))
    (m ((c.tc : Thread nD τ).loc main_arg7) (ix1 0))

/-- What the scratch arrays carry unchanged from the first point on: the folded weights and the two columns of offsets. -/
structure Set (o : Fin 17 → BitVec 32) (D : Data) (wg : Vec Ideal S256x128 .f32) (c1 w2 : Vec Ideal S1x128 .f32) (lo hi : Vec Ideal S16x1 .i32) : Prop where
  wg : ∀ k h, wg (ix2 k h) = ((wfold (Real.sqrt 2)⁻¹ D.G D.W k h : ℝ) : EReal)
  c1 : ∀ h, c1 (ix2 0 h) = bfold (Real.sqrt 2)⁻¹ D.B D.W D.B1 h
  w2 : ∀ h, w2 (ix2 0 h) = D.W2 h * (((Real.sqrt 2)⁻¹ : ℝ) : EReal)
  lo : ∀ b : Fin 16, lo (ix2 b 0) = o b.castSucc
  hi : ∀ b : Fin 16, hi (ix2 b 0) = o b.succ

/-- The running sums of every segment after the first `T` tokens. -/
abbrev Sums (o : Fin 17 → BitVec 32) (D : Data) (T : ℕ) (mx sm : Vec Ideal S16x1 .f32) (ac : Vec Ideal S16x256 .f32) : Prop :=
  ∀ b : Fin 16, Held (mem o b) D.w (fun d n => D.X n d) T (mx (ix2 b 0)) (sm (ix2 b 0)) fun d => ac (ix2 b d)

/-- One point: with the set-up values held, the running sums take in the point's block of tokens. -/
theorem sums_block (c : Dev nD) (D : Data) (hD : Args m c D) (t : Fin cfg0.N) (wg : Vec Ideal S256x128 .f32) (c1 w2 : Vec Ideal S1x128 .f32)
    (lo hi : Vec Ideal S16x1 .i32) (mx sm : Vec Ideal S16x1 .f32) (ac : Vec Ideal S16x256 .f32)
    (hs : Set (offs m c) D wg c1 w2 lo hi) (H : Sums (offs m c) D (t.val * 8192) mx sm ac) :
    Sums (offs m c) D ((t.val + 1) * 8192) (k0_pay2 (k0_pay27 (gw t) lo hi (row m c t wg c1 w2) (iblk m c 7 t) mx))
      (k0_pay30 (gw t) lo hi (row m c t wg c1 w2) (iblk m c 7 t) mx sm)
      (k0_pay1 (iblk m c 0 t) (k0_pay28 (gw t) lo hi (row m c t wg c1 w2) (iblk m c 7 t) mx)
        (k0_pay29 (gw t) lo hi (row m c t wg c1 w2) (iblk m c 7 t) mx) ac) := by
  intro b
  have hN : t.val < 4 := lt_of_lt_of_eq t.isLt N_0
  have hx : ∀ (r : Fin 8192) (d : Fin 256), (iblk m c 0 t : Vec Ideal S8192x256 .f32) (ix2 r d) = ((D.X (t.val * 8192 + r.val) d : ℝ) : EReal) := fun r d =>
    (b0 m c t r d).trans (hD.h0 _ d)
  rw [Nat.succ_mul]
  refine held_block _ _ _ _ _ _ _ _ _ _ _ _ _ b (fun r => ?_) (fun r => ?_) hx (H b)
  · rw [hs.lo b, hs.hi b, gw, coord t, tok_word t.val r.val hN r.isLt]
    rfl
  · rw [b7 m c t, hD.h7]
    exact p25 _ _ _ _ r _ _ _ _ _ _ _ (hx r) hs.wg hs.c1 hs.w2

/-- The first point sets up the values carried. -/
theorem set_first (c : Dev nD) (D : Data) (hD : Args m c D) (t : Fin cfg0.N) (acc : St) (h0 : t.val % 4 = 0) (h1 : ¬t.val % 4 = 3) :
    Set (offs m c) D (step m c t acc).wg (step m c t acc).c1 (step m c t acc).w2 (step m c t acc).lo (step m c t acc).hi where
  wg k h := by
    rw [stepA_wg m c t acc h0 h1]
    exact p7 _ _ D.W D.G (fun k h => (b4 m c t k h).trans (hD.h4 k h)) (fun k => (b2 m c t k).trans (hD.h2 k)) k h
  c1 h := by
    rw [stepA_c1 m c t acc h0 h1]
    exact p10 _ _ _ D.W D.B D.B1 (fun k h => (b4 m c t k h).trans (hD.h4 k h)) (fun k => (b3 m c t k).trans (hD.h3 k))
      (fun h => (b5 m c t h).trans (hD.h5 h)) h
  w2 h := by
    rw [stepA_w2 m c t acc h0 h1]
    exact p11 _ D.W2 (fun h => (b6 m c t h).trans (hD.h6 h)) h
  lo b := (stepA_lo m c t acc h0 h1 b).trans (b1 m c t _)
  hi b := (stepA_hi m c t acc h0 h1 b).trans (b1 m c t _)

/-- The scratch arrays after the first `T` tokens. -/
structure Good (c : Dev nD) (D : Data) (T : ℕ) (s : St) : Prop where
  set : Set (offs m c) D s.wg s.c1 s.w2 s.lo s.hi
  sums : Sums (offs m c) D T s.mx s.sm s.ac

/-- The first point, whatever the scratch arrays held. -/
theorem good_first (c : Dev nD) (D : Data) (hD : Args m c D) (t : Fin cfg0.N) (acc : St) (ht : t.val = 0) :
    Good m c D ((t.val + 1) * 8192) (step m c t acc) := by
  have h0 : t.val % 4 = 0 := by omega
  have h1 : ¬t.val % 4 = 3 := by omega
  have hs := set_first m c D hD t acc h0 h1
  refine ⟨hs, ?_⟩
  rw [stepA_mx m c t acc h0 h1, stepA_sm m c t acc h0 h1, stepA_ac m c t acc h0 h1]
  refine sums_block m c D hD t _ _ _ _ _ _ _ _ hs fun b => ?_
  simp only [p4, p5, p6, ht, Nat.zero_mul]
  exact held_start _ _ _

/-- A later point. -/
theorem good_next (c : Dev nD) (D : Data) (hD : Args m c D) (t : Fin cfg0.N) (acc : St) (ht : t.val ≠ 0) (H : Good m c D (t.val * 8192) acc) :
    Good m c D ((t.val + 1) * 8192) (step m c t acc) := by
  have hN : t.val < 4 := lt_of_lt_of_eq t.isLt N_0
  have h0 : ¬t.val % 4 = 0 := by omega
  have hk : (step m c t acc).2.2.2.2 = acc.2.2.2.2 := by
    by_cases h1 : t.val % 4 = 3
    · exact stepC_keep m c t acc h0 h1
    · exact stepB_keep m c t acc h0 h1
  refine ⟨?_, ?_⟩
  · have hs := H.set
    dsimp only [St.wg, St.c1, St.w2, St.lo, St.hi] at hs ⊢
    rw [hk]
    exact hs
  · by_cases h1 : t.val % 4 = 3
    · rw [stepC_mx m c t acc h0 h1, stepC_sm m c t acc h0 h1, stepC_ac m c t acc h0 h1]
      exact sums_block m c D hD t _ _ _ _ _ _ _ _ H.set H.sums
    · rw [stepB_mx m c t acc h0 h1, stepB_sm m c t acc h0 h1, stepB_ac m c t acc h0 h1]
      exact sums_block m c D hD t _ _ _ _ _ _ _ _ H.set H.sums

/-- The fold over the points. -/
theorem good_fold (c : Dev nD) (D : Data) (hD : Args m c D) : ∀ (j : ℕ) (hj : 0 + j < cfg0.N),
    Good m c D ((j + 1) * 8192) (Pipeline.accAt (fun n h => stAt0 m c n h junk0) (stAt0 m c) 0 j hj)
  | 0, hj => good_first m c D hD ⟨0, hj⟩ junk0 rfl
  | j + 1, hj => by
    have hj' : j + 1 < cfg0.N := lt_of_eq_of_lt (Nat.zero_add _).symm hj
    have e : Pipeline.accAt (fun n h => stAt0 m c n h junk0) (stAt0 m c) 0 (j + 1) hj
        = step m c ⟨j + 1, hj'⟩ (Pipeline.accAt (fun n h => stAt0 m c n h junk0) (stAt0 m c) 0 j (Nat.lt_of_succ_lt hj)) := by
      rw [Pipeline.accAt_succ]
      simp only [Nat.zero_add]
    rw [e]
    exact good_next m c D hD ⟨j + 1, hj'⟩ _ (Nat.succ_ne_zero j) (good_fold c D hD j _)

/-- The kernel's result: the pooled value of every segment. -/
theorem result (c : Dev nD) (D : Data) (hD : Args m c D) (b : Fin 16) (d : Fin 256) :
    (G8 m c : Vec Ideal S16x256 .f32) (ix2 b d) = ((D.out (offs m c) b d : ℝ) : EReal) := by
  have hg := good_fold m c D hD 3 (lt_of_lt_of_eq (by decide) N_0.symm)
  rw [G8_last]
  rw [Pipeline.accAt_succ] at hg ⊢
  have ho := stepC_out m c ⟨0 + (2 + 1), lt_of_lt_of_eq (by decide) N_0.symm⟩ (Pipeline.accAt (fun n h => stAt0 m c n h junk0) (stAt0 m c) 0 2 (lt_of_lt_of_eq (by decide) N_0.symm))
    (by decide) (by decide)
  refine (congrFun ho (ix2 b d)).trans ?_
  rw [p3]
  exact held_out _ _ _ _ _ _ _ (hg.sums b) d

end Cert.KernelIdeal.Steps
-- ==== Proof.Scatter.lean ====
module

public import Idealize.ShloMosaic.Lib.Pointwise
public import Idealize.ShloMosaic.Lib.StableHlo.Predicate
public import Idealize.ShloMosaic.Lib.Routing.OpsPair
public import proofs.«01_k».proof.Proof.Gen.ReferenceIdeal.Run
public import proofs.«01_k».proof.Proof.Maths
public import proofs.«01_k».proof.Proof.Words

@[expose] public section

set_option maxRecDepth 16384

noncomputable section

open Idealize.ShloMosaic Idealize.ShloMosaic.TcCoe Idealize.SL.Sem
open Finset (univ)

namespace Cert.ReferenceIdeal.Pooling

open Cert.Pool Cert.ReferenceIdeal Cert.ReferenceIdeal.Gen Cert.ReferenceIdeal.Value

/-- A token's contribution lands in the segment its index word names. -/
theorem lands1 (idx : IVec S32768x1 32) (n : Fin 32768) (b : Fin 16) :
    scatter_S16_S32768x1_S32768_n_0_0_1.resultIdx? (ix1 n) idx = some (ix1 b) ↔ (idx (ix2 n 0)).toInt = b.val := by
  have hs : scatter_S16_S32768x1_S32768_n_0_0_1.start (ix1 n) idx 0 = (idx (ix2 n 0)).toInt := by
    unfold ScatterDims.start
    rw [dif_pos (by decide)]
    congr 2
    funext a
    match a with
    | ⟨0, _⟩ => rfl
    | ⟨1, _⟩ => rfl
  have hw : scatter_S16_S32768x1_S32768_n_0_0_1.window (ix1 n) 0 = 0 := by
    unfold ScatterDims.window
    rw [dif_neg (by decide)]
  rw [Routing.resultIdx?_eq_some, show (∀ a, _) ↔ _ from Fin.forall_fin_one (p := fun a => _), hs, hw]
  show (idx (ix2 n 0)).toInt + ((0 : ℕ) : ℤ) = (b.val : ℤ) ↔ _
  rw [Nat.cast_zero, add_zero]

/-- A token's row lands in the row of the segment its index word names, each entry in its own column. -/
theorem lands2 (idx : IVec S32768x1 32) (n : Fin 32768) (d' : Fin 256) (b : Fin 16) (d : Fin 256) :
    scatter_S16x256_S32768x1_S32768x256_1_0_0_1.resultIdx? (ix2 n d') idx = some (ix2 b d) ↔ (idx (ix2 n 0)).toInt = b.val ∧ d' = d := by
  have hs : scatter_S16x256_S32768x1_S32768x256_1_0_0_1.start (ix2 n d') idx 0 = (idx (ix2 n 0)).toInt := by
    unfold ScatterDims.start
    rw [dif_pos (by decide)]
    congr 2
    funext a
    match a with
    | ⟨0, _⟩ => rfl
    | ⟨1, _⟩ => rfl
  have hs1 : scatter_S16x256_S32768x1_S32768x256_1_0_0_1.start (ix2 n d') idx 1 = 0 := by
    unfold ScatterDims.start
    rw [dif_neg (by decide)]
  have hw : scatter_S16x256_S32768x1_S32768x256_1_0_0_1.window (ix2 n d') 0 = 0 := by
    unfold ScatterDims.window
    rw [dif_neg (by decide)]
  have hw1 : scatter_S16x256_S32768x1_S32768x256_1_0_0_1.window (ix2 n d') 1 = d'.val := by
    unfold ScatterDims.window
    rw [dif_pos (by decide)]
    rfl
  rw [Routing.resultIdx?_eq_some, show (∀ a, _) ↔ _ from Fin.forall_fin_two (p := fun a => _), hs, hw, hs1, hw1, Fin.ext_iff]
  show (idx (ix2 n 0)).toInt + ((0 : ℕ) : ℤ) = (b.val : ℤ) ∧ (0 : ℤ) + (d'.val : ℤ) = (d.val : ℤ) ↔ _
  constructor
  · rintro ⟨h, h'⟩; exact ⟨by omega, by omega⟩
  · rintro ⟨h, h'⟩; exact ⟨by omega, by omega⟩

/-- Reading a vector of the segments at a word that names one. -/
theorem take {α : Type} (x : S16.Idx → α) (idx : IVec S32768x1 32) (n : Fin 32768) (b : Fin 16) (h : (idx (ix2 n 0)).toInt = b.val) :
    Host.gather gather_S16_S32768x1_S32768_n_0_n_n_0_1_1 x idx (ix1 n) = x (ix1 b) := by
  have e := StableHlo.Predicate.gather_take gather_S16_S32768x1_S32768_n_0_n_n_0_1_1 rfl rfl rfl rfl x idx n (by decide)
  have hn : (ix1 n : S32768.Idx) = Shape.Idx.ofFin n := by
    funext a
    match a with
    | ⟨0, _⟩ => rfl
  rw [hn, e]
  congr 1
  funext a
  match a with
  | ⟨0, _⟩ =>
    apply Fin.ext
    have hi : StableHlo.Predicate.ixP n = ix2 n 0 := by
      funext a
      match a with
      | ⟨0, _⟩ => rfl
      | ⟨1, _⟩ => rfl
    show min (idx (StableHlo.Predicate.ixP n)).toInt.toNat 15 = b.val
    rw [hi]
    rw [h]
    have := b.isLt
    omega

/-- The contributions added up segment by segment. -/
theorem scat1 (x : FVec Ideal S16 .f32) (idx : IVec S32768x1 32) (u : FVec Ideal S32768 .f32) (b : Fin 16) :
    Host.scatterAdd scatter_S16_S32768x1_S32768_n_0_0_1 x idx u (ix1 b)
      = x (ix1 b) + ∑ n : Fin 32768, if (idx (ix2 n 0)).toInt = b.val then u (ix1 n) else 0 := by
  unfold Host.scatterAdd
  rw [Ideal.hostScatterAdd_def]
  unfold Ideal.hostScatterAdd
  rw [Finset.sum_filter, sum_idx1]
  simp only [lands1]

/-- The rows added up segment by segment. -/
theorem scat2 (x : FVec Ideal S16x256 .f32) (idx : IVec S32768x1 32) (u : FVec Ideal S32768x256 .f32) (b : Fin 16) (d : Fin 256) :
    Host.scatterAdd scatter_S16x256_S32768x1_S32768x256_1_0_0_1 x idx u (ix2 b d)
      = x (ix2 b d) + ∑ n : Fin 32768, if (idx (ix2 n 0)).toInt = b.val then u (ix2 n d) else 0 := by
  unfold Host.scatterAdd
  rw [Ideal.hostScatterAdd_def]
  unfold Ideal.hostScatterAdd
  rw [Finset.sum_filter, sum_idx2]
  simp only [lands2]
  refine congrArg (x (ix2 b d) + ·) (Finset.sum_congr rfl fun n _ => ?_)
  by_cases h : (idx (ix2 n 0)).toInt = b.val
  · simp only [h, true_and, if_true]
    exact (Finset.sum_ite_eq' univ d _).trans (if_pos (Finset.mem_univ d))
  · simp only [h, false_and, if_false, Finset.sum_const_zero]

end Cert.ReferenceIdeal.Pooling
-- ==== Proof.RefValue.lean ====
module

public import Idealize.ShloMosaic.Lib.Pointwise
public import Idealize.ShloMosaic.Lib.StableHlo.Predicate
public import proofs.«01_k».proof.Proof.Scatter
public import Idealize.ShloMosaic.Lib.Routing.OpsPair
public import proofs.«01_k».proof.Proof.Gen.ReferenceIdeal.Run
public import proofs.«01_k».proof.Proof.Maths
public import proofs.«01_k».proof.Proof.Words

@[expose] public section

set_option maxRecDepth 16384

noncomputable section

open Idealize.ShloMosaic Idealize.ShloMosaic.TcCoe Idealize.SL.Sem
open Finset (univ)

namespace Cert.ReferenceIdeal.Pooling

open Cert.Pool Cert.ReferenceIdeal Cert.ReferenceIdeal.Gen Cert.ReferenceIdeal.Value

variable (V : Valuation τ sig (Elt Ideal))

/-- The offsets. -/
abbrev offs : Fin 17 → BitVec 32 := fun q => (V (Proc.devRef .tc main_arg1) : Vec Ideal S17 .i32) (ix1 q)

/-- The arguments are these numbers. -/
abbrev Args (D : Data) : Prop :=
  D.Of (fun n d => (V (Proc.devRef .tc main_arg0) : Vec Ideal S32768x256 .f32) (ix2 n d)) (fun d => (V (Proc.devRef .tc main_arg2) : Vec Ideal S256 .f32) (ix1 d))
    (fun d => (V (Proc.devRef .tc main_arg3) : Vec Ideal S256 .f32) (ix1 d)) (fun d h => (V (Proc.devRef .tc main_arg4) : Vec Ideal S256x128 .f32) (ix2 d h))
    (fun h => (V (Proc.devRef .tc main_arg5) : Vec Ideal S128 .f32) (ix1 h)) (fun h => (V (Proc.devRef .tc main_arg6) : Vec Ideal S128x1 .f32) (ix2 h 0))
    ((V (Proc.devRef .tc main_arg7) : Vec Ideal S1 .f32) (ix1 0))

/-! ## The segments -/

/-- The word of a token's segment is one below its count of offsets. -/
theorem seg_word (n : Fin 32768) : ((res_main_v9 V : Vec Ideal S32768 .i32) (ix1 n)).toInt = (cnt (offs V) n.val : ℤ) - 1 := by
  pointwise [res_main_v9]
  rw [fold_count univ (fun q => (offs V q).toInt ≤ (n.val : ℤ)) _ fun q => ?_]
  · exact pred_word _ (cnt_le _ _)
  · have hn : (BitVec.ofNat 32 n.val).toInt = (n.val : ℤ) := by
      have := n.isLt
      rw [BitVec.toInt_eq_toNat_cond, BitVec.toNat_ofNat, Nat.mod_eq_of_lt (by omega), if_pos (by omega)]
    simp only [IntOp.cmpi, BitVec.sle, hn]
    by_cases h : (offs V q).toInt ≤ (n.val : ℤ)
    · rw [if_pos h, decide_eq_true h]; rfl
    · rw [if_neg h, decide_eq_false h]; rfl

/-- A choice by whether a token lies in a segment. -/
theorem sel_valid {α : Type} (n : Fin 32768) (x y : α) :
    Scalar.select ((res_main_v14 V : Vec Ideal S32768 .i1) (ix1 n)) x y = if 1 ≤ cnt (offs V) n.val ∧ cnt (offs V) n.val ≤ 16 then x else y := by
  pointwise [res_main_v14]
  rw [sel_mem, seg_word]
  refine if_congr ?_ rfl rfl
  have h0 : (0#32).toInt = 0 := by decide
  have h16 : (16#32).toInt = 16 := by decide
  rw [h0, h16]
  omega

/-- The word of the segment a token is counted to. -/
theorem safe_word (n : Fin 32768) : ((res_main_v15 V : Vec Ideal S32768 .i32) (ix1 n)).toInt = (seg (offs V) n.val : ℤ) := by
  pointwise [res_main_v15]
  rw [sel_valid]
  unfold seg
  split
  · rw [seg_word]
    omega
  · exact (by decide : (0#32).toInt = 0)

/-- Wrapping an index that is not negative leaves it. -/
theorem wrap_word (n : Fin 32768) :
    (Scalar.select (IntOp.cmpi .slt ((res_main_v15 V : Vec Ideal S32768 .i32) (ix1 n)) 0#32) (IntOp.addi ((res_main_v15 V : Vec Ideal S32768 .i32) (ix1 n)) 16#32)
      ((res_main_v15 V : Vec Ideal S32768 .i32) (ix1 n))).toInt = (seg (offs V) n.val : ℤ) := by
  have h := safe_word V n
  rw [Routing.wrap_of_lt]
  · exact h
  · have := seg_lt (offs V) n.val
    rw [BitVec.toInt_eq_toNat_cond] at h
    split at h <;> omega

/-! ## The scores -/

/-- The score the reference gives a token. -/
theorem score_val (D : Data) (hD : Args V D) (n : Fin 32768) : (res_main_v57 V : Vec Ideal S32768 .f32) (ix1 n) = D.w n.val := by
  pointwise [res_main_v57, res_main_v43, res_main_v21, res_main_v19]
  have h256 : (256 : ℝ) ≠ 0 := by norm_num
  have hpos : 0 < vari (D.X n.val) + eps := add_pos_of_nonneg_of_pos (vari_nonneg _) eps_pos
  have hm : (∑ k, D.X n.val k) / 256 = mean (D.X n.val) := rfl
  have hv : (∑ k, (D.X n.val k - mean (D.X n.val)) * (D.X n.val k - mean (D.X n.val))) / 256 = vari (D.X n.val) := rfl
  have hsq : Real.sqrt 2 ≠ 0 := (Real.sqrt_pos.2 two_pos).ne'
  have hd : ∀ z : EReal, Ideal.div z ((Real.sqrt 2 : ℝ) : EReal) = z * (((Real.sqrt 2)⁻¹ : ℝ) : EReal) := fun z => by
    rw [Ideal.div_coe hsq, one_div]
  simp only [hD.h0, hD.h2, hD.h3, hD.h4, hD.h5, hD.h6, hD.h7, c256, ceps, chalf, ctwo, coe_sum, div_real _ _ h256, ← EReal.coe_sub, ← EReal.coe_mul, hm, hv,
    ← EReal.coe_add, sqrt_real _ hpos.le, sqrt_real _ (zero_le_two (α := ℝ)), div_real _ _ (Real.sqrt_pos.2 hpos).ne', hd]
  rfl

/-! ## The weights -/

/-- The number a segment's scores are lowered by is always a real number. -/
theorem shift_real (z y : EReal) (hy : y = 0) :
    ∃ M : ℝ, (if (FloatOps.absf (z : Ideal .f32) : Ideal .f32) < Ideal.ofBits .f32 2139095040#32 then z else y) = (M : EReal) := by
  rw [ctop, hy]
  induction z with
  | bot =>
    rw [show (FloatOps.absf (⊥ : Ideal .f32) : Ideal .f32) = max (⊥ : EReal) (-⊥) from rfl, if_neg (not_lt.2 (by rw [EReal.neg_bot]; exact le_max_right _ _))]
    exact ⟨0, rfl⟩
  | top =>
    rw [show (FloatOps.absf (⊤ : Ideal .f32) : Ideal .f32) = max (⊤ : EReal) (-⊤) from rfl, if_neg (not_lt.2 (le_max_left _ _))]
    exact ⟨0, rfl⟩
  | coe a =>
    split
    · exact ⟨a, rfl⟩
    · exact ⟨0, rfl⟩

/-- The weights, lowered segment by segment by some real number; zero for a token outside every segment. -/
theorem weight_val (D : Data) (hD : Args V D) : ∃ M : Fin 16 → ℝ, ∀ n : Fin 32768, (res_main_v81 V : Vec Ideal S32768 .f32) (ix1 n)
    = if 1 ≤ cnt (offs V) n.val ∧ cnt (offs V) n.val ≤ 16 then Ideal.exp (D.w n.val - (M ⟨seg (offs V) n.val, seg_lt _ _⟩ : EReal)) else 0 := by
  have h0 : (Ideal.ofBits .f32 0#32 : EReal) = 0 := by simp
  choose M hM using fun b : Fin 16 => shift_real ((res_main_v67 V : Vec Ideal S16 .f32) (ix1 b)) (Ideal.ofBits .f32 0#32) h0
  refine ⟨M, fun n => ?_⟩
  have hw := wrap_word V n
  pointwise [res_main_v81]
  rw [sel_valid, take _ _ n ⟨seg (offs V) n.val, seg_lt _ _⟩]
  · pointwise
    rw [score_val V D hD, ← hM]
    exact if_congr Iff.rfl rfl h0
  · pointwise
    exact hw

/-- A token's weight as the segment it is counted to sees it. -/
theorem weight_seg (D : Data) (hD : Args V D) (ho : ∀ q : Fin 16, (offs V q.castSucc).toInt ≤ (offs V q.succ).toInt) (M : Fin 16 → ℝ) (n : ℕ) (b : Fin 16)
    [Decidable (mem (offs V) b n)] :
    (if seg (offs V) n = b.val then
        (if 1 ≤ cnt (offs V) n ∧ cnt (offs V) n ≤ 16 then Ideal.exp (D.w n - (M ⟨seg (offs V) n, seg_lt _ _⟩ : EReal)) else 0) else 0)
      = Ideal.exp ((if mem (offs V) b n then D.w n else ⊥) - (M b : EReal)) := by
  have hbot : Ideal.exp (⊥ - (M b : EReal)) = 0 := by rw [EReal.bot_sub, Ideal.exp_bot]
  have hm := mem_iff_seg (offs V) ho b n
  by_cases hs : seg (offs V) n = b.val
  · have hb : (⟨seg (offs V) n, seg_lt _ _⟩ : Fin 16) = b := Fin.ext hs
    rw [if_pos hs, hb]
    by_cases hc : 1 ≤ cnt (offs V) n ∧ cnt (offs V) n ≤ 16
    · rw [if_pos hc, if_pos (hm.2 ⟨hc, hs⟩)]
    · rw [if_neg hc, if_neg fun h => hc (hm.1 h).1, hbot]
  · rw [if_neg hs, if_neg fun h => hs (hm.1 h).2, hbot]

/-- The sum of a segment's weights. -/
theorem sum_seg (D : Data) (hD : Args V D) (ho : ∀ q : Fin 16, (offs V q.castSucc).toInt ≤ (offs V q.succ).toInt) (M : Fin 16 → ℝ)
    (hM : ∀ n : Fin 32768, (res_main_v81 V : Vec Ideal S32768 .f32) (ix1 n)
      = if 1 ≤ cnt (offs V) n.val ∧ cnt (offs V) n.val ≤ 16 then Ideal.exp (D.w n.val - (M ⟨seg (offs V) n.val, seg_lt _ _⟩ : EReal)) else 0)
    [∀ b n, Decidable (mem (offs V) b n)] (b : Fin 16) :
    (Host.scatterAdd scatter_S16_S32768x1_S32768_n_0_0_1 (broadcastInDim S16 ![] bcast_S_S16 (constant S_ .f32 0x00000000#32))
        (broadcastInDim S32768x1 ![0] bcast_S32768_S32768x1_0 (res_main_v15 V)) (res_main_v81 V) : Vec Ideal S16 .f32) (ix1 b)
      = ∑ n : Fin 32768, Ideal.exp ((if mem (offs V) b n.val then D.w n.val else ⊥) - (M b : EReal)) := by
  rw [scat1]
  have h0 : (broadcastInDim S16 ![] bcast_S_S16 (constant S_ .f32 0x00000000#32 : FVec Ideal S_ .f32) : FVec Ideal S16 .f32) (ix1 b) = (0 : EReal) := by pointwise
  have hi : ∀ n : Fin 32768, (broadcastInDim S32768x1 ![0] bcast_S32768_S32768x1_0 (res_main_v15 V) : IVec S32768x1 32) (ix2 n 0)
      = (res_main_v15 V : Vec Ideal S32768 .i32) (ix1 n) := fun n => by pointwise
  rw [h0, zero_add]
  refine Finset.sum_congr rfl fun n _ => ?_
  rw [hi, safe_word, hM]
  refine Eq.trans ?_ (weight_seg V D hD ho M n.val b)
  exact if_congr Nat.cast_inj rfl rfl

/-- What a token reads as its denominator is the sum of its segment's weights. -/
theorem denom_val (n : Fin 32768) : (res_main_v91 V : Vec Ideal S32768 .f32) (ix1 n)
    = (Host.scatterAdd scatter_S16_S32768x1_S32768_n_0_0_1 (broadcastInDim S16 ![] bcast_S_S16 (constant S_ .f32 0x00000000#32))
        (broadcastInDim S32768x1 ![0] bcast_S32768_S32768x1_0 (res_main_v15 V)) (res_main_v81 V) : Vec Ideal S16 .f32) (ix1 ⟨seg (offs V) n.val, seg_lt _ _⟩) := by
  have hw := wrap_word V n
  unfold res_main_v91
  rw [take _ _ n ⟨seg (offs V) n.val, seg_lt _ _⟩]
  pointwise
  exact hw

/-- The result as a function of the arguments. -/
abbrev outV : Vec Ideal S16x256 .f32 :=
  Host.scatterAdd scatter_S16x256_S32768x1_S32768x256_1_0_0_1 (broadcastInDim S16x256 ![] bcast_S_S16x256 (constant S_ .f32 0x00000000#32)) (broadcastInDim S32768x1 ![0] bcast_S32768_S32768x1_0 (res_main_v15 V)) (mulf (V (Proc.devRef .tc main_arg0)) (broadcastInDim S32768x256 ![0, 1] bcast_S32768x1_S32768x256_0_1 (broadcastInDim S32768x1 ![0] bcast_S32768_S32768x1_0 (Host.divf (res_main_v81 V) (select (cmpf .ogt (res_main_v91 V) (broadcastInDim S32768 ![] bcast_S_S32768 (constant S_ .f32 0x00000000#32))) (res_main_v91 V) (broadcastInDim S32768 ![] bcast_S_S32768 (id (constant S_ .f32 0x3F800000#32))))))))

/-- One entry of a token's row times its share, read at an index. -/
theorem row_val (a : FVec Ideal S32768x256 .f32) (w s : FVec Ideal S32768 .f32) (n : Fin 32768) (d : Fin 256) :
    (mulf a (broadcastInDim S32768x256 ![0, 1] bcast_S32768x1_S32768x256_0_1 (broadcastInDim S32768x1 ![0] bcast_S32768_S32768x1_0 (Host.divf w (select (cmpf .ogt s (broadcastInDim S32768 ![] bcast_S_S32768 (constant S_ .f32 0x00000000#32 : FVec Ideal S_ .f32))) s (broadcastInDim S32768 ![] bcast_S_S32768 (id (constant S_ .f32 0x3F800000#32 : FVec Ideal S_ .f32)))))))) (ix2 n d)
      = (a (ix2 n d) : EReal) * Ideal.div (w (ix1 n)) (if (0 : EReal) < s (ix1 n) then s (ix1 n) else (1 : EReal)) := by
  have h1 : (Ideal.ofBits .f32 0x3F800000#32 : EReal) = 1 := by
    refine Eq.trans ?_ EReal.coe_one
    simp [Ideal.ofBits, Ideal.ieee, -EReal.coe_mul, -EReal.coe_one]; norm_num
  pointwise
  exact congrArg (fun z : EReal => (a (ix2 n d) : EReal) * Ideal.div (w (ix1 n)) z) (if_congr Iff.rfl rfl h1)

/-- The reference's result: the pooled value of every segment. -/
theorem result (D : Data) (hD : Args V D) (ho : ∀ q : Fin 16, (offs V q.castSucc).toInt ≤ (offs V q.succ).toInt) (b : Fin 16) (d : Fin 256) :
    outV V (ix2 b d) = ((D.out (offs V) b d : ℝ) : EReal) := by
  classical
  obtain ⟨M, hM⟩ := weight_val V D hD
  have hS := sum_seg V D hD ho M hM
  have h0 : (broadcastInDim S16x256 ![] bcast_S_S16x256 (constant S_ .f32 0x00000000#32 : FVec Ideal S_ .f32) : FVec Ideal S16x256 .f32) (ix2 b d) = (0 : EReal) := by pointwise
  have hi : ∀ n : Fin 32768, (broadcastInDim S32768x1 ![0] bcast_S32768_S32768x1_0 (res_main_v15 V) : IVec S32768x1 32) (ix2 n 0)
      = (res_main_v15 V : Vec Ideal S32768 .i32) (ix1 n) := fun n => by pointwise
  unfold outV
  rw [scat2, h0, zero_add]
  refine Eq.trans ?_ (plain_out (mem (offs V) b) D.w (fun n => D.X n d) 32768 (M b) _ (hS b))
  refine Finset.sum_congr rfl fun n _ => ?_
  rw [hi, safe_word, row_val, denom_val, hD.h0 n d, hM, ← weight_seg V D hD ho M n.val b]
  by_cases hs : seg (offs V) n.val = b.val
  · have hb : (⟨seg (offs V) n.val, seg_lt _ _⟩ : Fin 16) = b := Fin.ext hs
    rw [if_pos (congrArg Nat.cast hs), if_pos hs, hb]
  · rw [if_neg fun h => hs (Nat.cast_inj.1 h), if_neg hs]
    have hz : ∀ S : EReal, Ideal.div 0 (if 0 < S then S else 1) = 0 := fun S => by
      unfold Ideal.div
      split
      · next h => rw [if_neg h.ne', zero_mul]
      · rw [if_neg one_ne_zero, zero_mul]
    rw [hz, mul_zero]

end Cert.ReferenceIdeal.Pooling
-- ==== Proof.Pre.lean ====
module

public import Idealize.ShloMosaic.Lib.ReduceAll
public import Idealize.ShloMosaic.Lib.Affine
public import Idealize.ShloMosaic.Lib.Pointwise
public import proofs.«01_k».proof.Defs
public import proofs.«01_k».proof.Proof.Gen.Pre_finite_sorted
public import proofs.«01_k».proof.Proof.Fold

@[expose] public section

set_option maxRecDepth 16384

noncomputable section

open Idealize.ShloMosaic Idealize.ShloMosaic.TcCoe Idealize.SL.Sem

namespace Cert.Pre_finite_sorted.Reading

open Cert.Pool Cert.Pre_finite_sorted Cert.Pre_finite_sorted.Gen

/-- A comparison that found a number's size below infinity says the number is real. -/
theorem real_of_lt (x : EReal) (h : (FloatOps.cmpf .olt (FloatOps.absf (x : Ideal .f32)) (Ideal.ofBits .f32 0x7F800000#32 : Ideal .f32) : BitVec 1) = 1#1) :
    x = (x.toReal : EReal) := by
  rw [show (Ideal.ofBits .f32 0x7F800000#32 : Ideal .f32) = (⊤ : EReal) from ctop] at h
  have h' : max x (-x) < ⊤ := by
    by_contra hn
    change Ideal.cmp .olt (max x (-x)) ⊤ = 1#1 at h
    simp only [Ideal.cmp, hn] at h
    exact absurd h (by decide)
  refine (EReal.coe_toReal ?_ ?_).symm
  · rintro rfl; exact absurd h' (by simp)
  · rintro rfl; exact absurd h' (by simp)

/-- One index only. -/
instance : Subsingleton S_.Idx := ⟨fun a b => funext fun k => k.elim0⟩

/-- What the precondition says of the arrays. -/
theorem read (a0 : FVec Ideal S32768x256 .f32) (a1 : IVec S17 32) (a2 a3 : FVec Ideal S256 .f32) (a4 : FVec Ideal S256x128 .f32) (a5 : FVec Ideal S128 .f32)
    (a6 : FVec Ideal S128x1 .f32) (a7 : FVec Ideal S1 .f32) (h : fn (F := Ideal) a0 a1 a2 a3 a4 a5 a6 a7 = fun _ => 1#1) :
    (∀ i, (a0 i : EReal) = (EReal.toReal (a0 i) : EReal)) ∧ (∀ i, (a2 i : EReal) = (EReal.toReal (a2 i) : EReal)) ∧ (∀ i, (a4 i : EReal) = (EReal.toReal (a4 i) : EReal))
      ∧ ∀ q : Fin 16, (a1 (ix1 q.castSucc)).toInt ≤ (a1 (ix1 q.succ)).toInt := by
  have e := congrFun h (fun k => k.elim0)
  dsimp only [fn, fn_part1] at e
  obtain ⟨e, e4⟩ := IntOp.andi_eq_one.1 e
  obtain ⟨e, e2⟩ := IntOp.andi_eq_one.1 e
  obtain ⟨e0, e1⟩ := IntOp.andi_eq_one.1 e
  refine ⟨fun i => real_of_lt _ (Host.reduce_andi_all _ _ _ _ _ e0 i), fun i => real_of_lt _ (Host.reduce_andi_all _ _ _ _ _ e2 i),
    fun i => real_of_lt _ (Host.reduce_andi_all _ _ _ _ _ e4 i), fun q => ?_⟩
  have c := IntOp.cmpi_sle.1 (Host.reduce_andi_all _ _ _ _ _ e1 (ix1 q))
  have l : (extractStridedSlice S16 ![0] a1 Facts.slices_S17_S16_0 : IVec S16 32) (ix1 q) = a1 (ix1 q.castSucc) := by
    pointwise
    rfl
  have r : (extractStridedSlice S16 ![1] a1 Facts.slices_S17_S16_1 : IVec S16 32) (ix1 q) = a1 (ix1 q.succ) := by
    pointwise
    exact congrArg (fun z => a1 (ix1 z)) (Fin.ext (Nat.add_comm _ _))
  rw [l, r] at c
  exact c

end Cert.Pre_finite_sorted.Reading

namespace Cert.KernelIdeal.Steps

open Cert.Pool Cert.KernelIdeal

/-- Under the precondition a device's arguments are numbers as the value proofs want them, and its offsets do not fall. -/
theorem args_of_pre (m : (ℓ : Loc nD τ sig) → Buf (Elt Ideal) ℓ) (h : Cert.Pre_KernelIdeal_finite_sorted m) (c : Dev nD) :
    (∃ D : Data, Args m c D) ∧ ∀ q : Fin 16, (offs m c q.castSucc).toInt ≤ (offs m c q.succ).toInt := by
  obtain ⟨h0, h2, h4, h1⟩ := Cert.Pre_finite_sorted.Reading.read _ _ _ _ _ _ _ _ (h c)
  refine ⟨⟨⟨fun n d => if hn : n < 32768 then EReal.toReal (m ((c.tc : Thread nD τ).loc main_arg0) (ix2 ⟨n, hn⟩ d)) else 0,
    fun d => EReal.toReal (m ((c.tc : Thread nD τ).loc main_arg2) (ix1 d)), fun d => m ((c.tc : Thread nD τ).loc main_arg3) (ix1 d),
    fun d k => EReal.toReal (m ((c.tc : Thread nD τ).loc main_arg4) (ix2 d k)), fun k => m ((c.tc : Thread nD τ).loc main_arg5) (ix1 k),
    fun k => m ((c.tc : Thread nD τ).loc main_arg6) (ix2 k 0), m ((c.tc : Thread nD τ).loc main_arg7) (ix1 0)⟩, ?_⟩, h1⟩
  exact {
    h0 := fun n d => by
      show _ = ((dite _ _ _ : ℝ) : EReal)
      rw [dif_pos n.isLt]
      exact h0 _
    h2 := fun d => h2 _
    h3 := fun _ => rfl
    h4 := fun d k => h4 _
    h5 := fun _ => rfl
    h6 := fun _ => rfl
    h7 := rfl }

end Cert.KernelIdeal.Steps
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_sorted
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Fold
public import proofs.«01_k».proof.Proof.RefValue
public import proofs.«01_k».proof.Proof.Pre

@[expose] public section

set_option maxRecDepth 16384

noncomputable section

namespace Cert.Proof

open Idealize.ShloMosaic Idealize.SL.Sem Cert.Kernel

/-- The reference runs, leaves its arguments and ends with every counter at zero: it declares no semaphore. -/
theorem frame_ri (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run m g)

/-- From equal arguments that meet the precondition, the two programs' results are equal: both are the pooled values. -/
theorem results_eq (m : (ℓ : Loc Cert.KernelIdeal.nD Cert.KernelIdeal.τ Cert.KernelIdeal.sig) → Buf (Elt Ideal) ℓ) (h : Cert.Pre_KernelIdeal_finite_sorted m) (c : Dev Cert.KernelIdeal.nD)
    (V : Valuation Cert.ReferenceIdeal.τ Cert.ReferenceIdeal.sig (Elt Ideal))
    (e0 : V (Proc.devRef .tc Cert.ReferenceIdeal.main_arg0) = m ((c.tc : Thread Cert.KernelIdeal.nD Cert.KernelIdeal.τ).loc Cert.KernelIdeal.main_arg0))
    (e1 : V (Proc.devRef .tc Cert.ReferenceIdeal.main_arg1) = m ((c.tc : Thread Cert.KernelIdeal.nD Cert.KernelIdeal.τ).loc Cert.KernelIdeal.main_arg1))
    (e2 : V (Proc.devRef .tc Cert.ReferenceIdeal.main_arg2) = m ((c.tc : Thread Cert.KernelIdeal.nD Cert.KernelIdeal.τ).loc Cert.KernelIdeal.main_arg2))
    (e3 : V (Proc.devRef .tc Cert.ReferenceIdeal.main_arg3) = m ((c.tc : Thread Cert.KernelIdeal.nD Cert.KernelIdeal.τ).loc Cert.KernelIdeal.main_arg3))
    (e4 : V (Proc.devRef .tc Cert.ReferenceIdeal.main_arg4) = m ((c.tc : Thread Cert.KernelIdeal.nD Cert.KernelIdeal.τ).loc Cert.KernelIdeal.main_arg4))
    (e5 : V (Proc.devRef .tc Cert.ReferenceIdeal.main_arg5) = m ((c.tc : Thread Cert.KernelIdeal.nD Cert.KernelIdeal.τ).loc Cert.KernelIdeal.main_arg5))
    (e6 : V (Proc.devRef .tc Cert.ReferenceIdeal.main_arg6) = m ((c.tc : Thread Cert.KernelIdeal.nD Cert.KernelIdeal.τ).loc Cert.KernelIdeal.main_arg6))
    (e7 : V (Proc.devRef .tc Cert.ReferenceIdeal.main_arg7) = m ((c.tc : Thread Cert.KernelIdeal.nD Cert.KernelIdeal.τ).loc Cert.KernelIdeal.main_arg7)) :
    Cert.ReferenceIdeal.Pooling.outV V = Cert.KernelIdeal.Value.G8 m c := by
  obtain ⟨⟨D, hD⟩, ho⟩ := Cert.KernelIdeal.Steps.args_of_pre m h c
  have hD' : Cert.ReferenceIdeal.Pooling.Args V D := {
    h0 := fun n d => (congrFun e0 _).trans (hD.h0 n d)
    h2 := fun d => (congrFun e2 _).trans (hD.h2 d)
    h3 := fun d => (congrFun e3 _).trans (hD.h3 d)
    h4 := fun d k => (congrFun e4 _).trans (hD.h4 d k)
    h5 := fun k => (congrFun e5 _).trans (hD.h5 k)
    h6 := fun k => (congrFun e6 _).trans (hD.h6 k)
    h7 := (congrFun e7 _).trans hD.h7 }
  have eo : Cert.ReferenceIdeal.Pooling.offs V = Cert.KernelIdeal.Steps.offs m c := funext fun q => congrFun e1 (ix1 q)
  funext i
  rw [← ix2_eta i]
  refine (Cert.ReferenceIdeal.Pooling.result V D hD' (fun q => by rw [eo]; exact ho q) (i 0) (i 1)).trans ?_
  rw [eo]
  exact (Cert.KernelIdeal.Steps.result m c D hD (i 0) (i 1)).symm

/-- The two idealized programs compute the same pooled values. -/
theorem algebraic : Cert.algebraic_KernelIdeal_ReferenceIdeal_pre_finite_sorted (hKernelIdeal := Cert.KernelIdeal.Gen.facts)
    (hReferenceIdeal := Cert.ReferenceIdeal.Gen.facts) (hPre_finite_sorted := Cert.Pre_finite_sorted.Gen.facts) := by
  intro m g m' g' h ha
  refine ⟨fun c => Cert.KernelIdeal.Value.G8 m c, Cert.KernelIdeal.Value.run m g,
    (θ_run Cert.ReferenceIdeal.defs _ _).mono (fun r k c => ⟨(k c).1.trans ?_, (k c).2⟩) (Cert.ReferenceIdeal.Value.run m' g')⟩
  obtain ⟨e0, e1, e2, e3, e4, e5, e6, e7⟩ := ha c
  exact results_eq m h c (Idealize.ShloMosaic.StableHlo.launchContents m' c) e0 e1 e2 e3 e4 e5 e6 e7

/-- The claims, together. -/
theorem claim : Cert.Claim := ⟨Cert.Kernel.Gen.facts, Cert.KernelIdeal.Gen.facts, Cert.ReferenceIdeal.Gen.facts, Cert.Pre_finite_sorted.Gen.facts,
  fun m g _ => Cert.Kernel.Gen.frame m g, fun m g _ => Cert.KernelIdeal.Gen.frame m g, fun m g _ => Cert.KernelIdeal.Gen.frame m g,
  fun m g _ => frame_ri m g, fun m g _ => frame_ri m g,
  IdealRules.named_const.statement Cert.KernelIdeal.κ "sqrt_half" .f32 0x3F3504F3#32 (((Real.sqrt 2)⁻¹ : ℝ) : EReal) rfl, algebraic⟩

end Cert.Proof

end
